-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8388608x2 : Shape := ⟨2, ![8388608, 2]⟩
abbrev S8388608x1 : Shape := ⟨2, ![8388608, 1]⟩
abbrev S8388608 : Shape := ⟨1, ![8388608]⟩
abbrev S_ : Shape := ⟨0, ![]⟩

class Facts : Prop where
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  bcast_S_S8388608 : S_.BroadcastsInDim S8388608 (![] : Fin 0 → Fin S8388608.rank)
  reducesTo_S8388608_S_d0 : S8388608.ReducesTo [0] S_
  h_S_ : 0 < S_.numel
  bcast_S_S8388608x2 : S_.BroadcastsInDim S8388608x2 (![] : Fin 0 → Fin S8388608x2.rank)
  reducesTo_S8388608x2_S_d0_1 : S8388608x2.ReducesTo [0, 1] S_

variable [Facts]

def fn {F : FTy → Type} [FloatOps F] (main_arg0 : FVec F S8388608x2 .f32) (main_arg1 : FVec F S8388608x2 .f32) : IVec S_ 1 :=
  let main_v0 : FVec F S8388608x1 .f32 := (extractStridedSlice S8388608x1 ![0, 0] · slices_S8388608x2_S8388608x1_0_0) main_arg0
  let main_v1 : FVec F S8388608 .f32 := shapeCast S8388608 main_v0 shapeCasts_S8388608x1_S8388608
  let main_v2 : FVec F S8388608x1 .f32 := (extractStridedSlice S8388608x1 ![0, 1] · slices_S8388608x2_S8388608x1_0_1) main_arg0
  let main_v3 : FVec F S8388608 .f32 := shapeCast S8388608 main_v2 shapeCasts_S8388608x1_S8388608
  let main_v4 : FVec F S8388608 .f32 := subf main_v1 main_v3
  let main_v5 : FVec F S8388608 .f32 := Host.absf main_v4
  let main_cst : FVec F S_ .f32 := constant S_ .f32 0x42FE0000#32
  let main_v6 : FVec F S8388608 .f32 := broadcastInDim S8388608 ![] bcast_S_S8388608 main_cst
  let main_v7 : IVec S8388608 1 := cmpf .ole main_v5 main_v6
  let main_c : IVec S_ 1 := constantI S_ 1 1#1
  let main_v8 : IVec S_ 1 := (fun x v => Host.reduce IntOp.andi x v reducesTo_S8388608_S_d0 h_S_) main_v7 main_c
  let main_cst_0 : FVec F S_ .f32 := constant S_ .f32 0x00000000#32
  let main_v9 : FVec F S8388608x2 .f32 := broadcastInDim S8388608x2 ![] bcast_S_S8388608x2 main_cst_0
  let main_v10 : IVec S8388608x2 1 := cmpf .oge main_arg1 main_v9
  let main_c_1 : IVec S_ 1 := constantI S_ 1 1#1
  let main_v11 : IVec S_ 1 := (fun x v => Host.reduce IntOp.andi x v reducesTo_S8388608x2_S_d0_1 h_S_) main_v10 main_c_1
  let main_v12 : IVec S_ 1 := andi main_v8 main_v11
  main_v12
-- ==== Kernel.lean ====
abbrev S8388608x2 : Shape := ⟨2, ![8388608, 2]⟩
abbrev S2x8388608 : Shape := ⟨2, ![2, 8388608]⟩
abbrev S2x65536x128 : Shape := ⟨3, ![2, 65536, 128]⟩
abbrev S1x1 : Shape := ⟨2, ![1, 1]⟩
abbrev S1x512x128 : Shape := ⟨3, ![1, 512, 128]⟩
abbrev S21x8x128 : Shape := ⟨3, ![21, 8, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 7
  | .vmem => 9
  | .smem => 1
  | _ => 0

abbrev bufTy : (tb : Table) → Fin (tcTables nBuf tb) → BufTy
  | .hbm, ⟨0, _⟩ => ⟨S8388608x2, .f32⟩
  | .hbm, ⟨1, _⟩ => ⟨S8388608x2, .f32⟩
  | .hbm, ⟨2, _⟩ => ⟨S2x8388608, .f32⟩
  | .hbm, ⟨3, _⟩ => ⟨S2x65536x128, .f32⟩
  | .hbm, ⟨4, _⟩ => ⟨S2x8388608, .f32⟩
  | .hbm, ⟨5, _⟩ => ⟨S2x65536x128, .f32⟩
  | .hbm, ⟨6, _⟩ => ⟨S1x1, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S21x8x128, .f32⟩
  | .local _ .smem, ⟨0, _⟩ => ⟨S1x1, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v6088 : BitVec 1 := Scalar.cmpi .eq arg0 c127_i32
  let v6089 : BitVec 32 := Scalar.extui v6088
  let c0_i32_2699 : BitVec 32 := 0#32
  let v6090 : BitVec 1 := Scalar.cmpi .ne v6089 c0_i32_2699
  v6090

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8388608x2 : Shape := ⟨2, ![8388608, 2]⟩
abbrev S_ : Shape := ⟨0, ![]⟩
abbrev S8388608 : Shape := ⟨1, ![8388608]⟩
abbrev S8388608x1 : Shape := ⟨2, ![8388608, 1]⟩
abbrev S8388608x1x1 : Shape := ⟨3, ![8388608, 1, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 372
  | .vmem => 0
  | .smem => 0
  | _ => 0

abbrev hbmTy0_0 (i : Nat) : BufTy := match i % 128 with
  | 0 => ⟨S8388608x2, .f32⟩
  | 1 => ⟨S8388608x2, .f32⟩
  | 2 => ⟨S_, .f32⟩
  | 3 => ⟨S8388608, .f32⟩
  | 4 => ⟨S_, .f32⟩
  | 5 => ⟨S8388608, .f32⟩
  | 6 => ⟨S8388608, .f32⟩
  | 7 => ⟨S8388608x1, .f32⟩
  | 8 => ⟨S8388608x2, .f32⟩
  | 9 => ⟨S8388608x2, .f32⟩
  | 10 => ⟨S8388608x2, .f32⟩
  | 11 => ⟨S_, .f32⟩
  | 12 => ⟨S8388608, .f32⟩
  | 13 => ⟨S8388608x1, .f32⟩
  | 14 => ⟨S8388608x2, .f32⟩
  | 15 => ⟨S8388608x2, .f32⟩
  | 16 => ⟨S8388608x2, .f32⟩
  | 17 => ⟨S8388608x2, .f32⟩
  | 18 => ⟨S8388608x2, .f32⟩
  | 19 => ⟨S_, .f32⟩
  | 20 => ⟨S8388608, .f32⟩
  | 21 => ⟨S_, .f32⟩
  | 22 => ⟨S8388608, .f32⟩
  | 23 => ⟨S_, .f32⟩
  | 24 => ⟨S8388608, .f32⟩
  | 25 => ⟨S8388608, .i1⟩
  | 26 => ⟨S_, .f32⟩
  | 27 => ⟨S8388608, .f32⟩
  | 28 => ⟨S8388608, .i1⟩
  | 29 => ⟨S8388608, .i1⟩
  | 30 => ⟨S8388608, .i32⟩
  | 31 => ⟨S_, .i32⟩
  | 32 => ⟨S_, .i32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .i1⟩
  | 44 => ⟨S8388608, .i1⟩
  | 45 => ⟨S8388608, .i1⟩
  | 46 => ⟨S8388608, .f32⟩
  | 47 => ⟨S8388608, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S8388608, .f32⟩
  | 55 => ⟨S8388608, .i1⟩
  | 56 => ⟨S_, .f32⟩
  | 57 => ⟨S8388608, .f32⟩
  | 58 => ⟨S8388608, .i1⟩
  | 59 => ⟨S8388608, .i1⟩
  | 60 => ⟨S8388608, .i32⟩
  | 61 => ⟨S_, .i32⟩
  | 62 => ⟨S_, .i32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .i1⟩
  | 74 => ⟨S8388608, .i1⟩
  | 75 => ⟨S8388608, .i1⟩
  | 76 => ⟨S8388608, .f32⟩
  | 77 => ⟨S8388608, .f32⟩
  | 78 => ⟨S_, .f32⟩
  | 79 => ⟨S_, .i1⟩
  | 80 => ⟨S_, .f32⟩
  | 81 => ⟨S_, .f32⟩
  | 82 => ⟨S_, .f32⟩
  | 83 => ⟨S8388608, .f32⟩
  | 84 => ⟨S8388608, .i1⟩
  | 85 => ⟨S_, .f32⟩
  | 86 => ⟨S8388608, .f32⟩
  | 87 => ⟨S8388608, .i1⟩
  | 88 => ⟨S8388608, .i1⟩
  | 89 => ⟨S8388608, .i32⟩
  | 90 => ⟨S_, .i32⟩
  | 91 => ⟨S_, .i32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .i1⟩
  | 103 => ⟨S8388608, .i1⟩
  | 104 => ⟨S8388608, .i1⟩
  | 105 => ⟨S8388608, .f32⟩
  | 106 => ⟨S8388608, .f32⟩
  | 107 => ⟨S_, .f32⟩
  | 108 => ⟨S_, .i1⟩
  | 109 => ⟨S_, .f32⟩
  | 110 => ⟨S_, .f32⟩
  | 111 => ⟨S_, .f32⟩
  | 112 => ⟨S8388608, .f32⟩
  | 113 => ⟨S8388608, .i1⟩
  | 114 => ⟨S_, .f32⟩
  | 115 => ⟨S8388608, .f32⟩
  | 116 => ⟨S8388608, .i1⟩
  | 117 => ⟨S8388608, .i1⟩
  | 118 => ⟨S8388608, .i32⟩
  | 119 => ⟨S_, .i32⟩
  | 120 => ⟨S_, .i32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8388608x2, .f32⟩

abbrev hbmTy0_1 (i : Nat) : BufTy := match i % 128 with
  | 0 => ⟨S_, .f32⟩
  | 1 => ⟨S_, .f32⟩
  | 2 => ⟨S_, .f32⟩
  | 3 => ⟨S_, .i1⟩
  | 4 => ⟨S8388608, .i1⟩
  | 5 => ⟨S8388608, .i1⟩
  | 6 => ⟨S8388608, .f32⟩
  | 7 => ⟨S8388608, .f32⟩
  | 8 => ⟨S_, .f32⟩
  | 9 => ⟨S_, .i1⟩
  | 10 => ⟨S_, .f32⟩
  | 11 => ⟨S_, .f32⟩
  | 12 => ⟨S_, .f32⟩
  | 13 => ⟨S8388608, .f32⟩
  | 14 => ⟨S8388608, .i1⟩
  | 15 => ⟨S_, .f32⟩
  | 16 => ⟨S8388608, .f32⟩
  | 17 => ⟨S8388608, .i1⟩
  | 18 => ⟨S8388608, .i1⟩
  | 19 => ⟨S8388608, .i32⟩
  | 20 => ⟨S_, .i32⟩
  | 21 => ⟨S_, .i32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .i1⟩
  | 33 => ⟨S8388608, .i1⟩
  | 34 => ⟨S8388608, .i1⟩
  | 35 => ⟨S8388608, .f32⟩
  | 36 => ⟨S8388608, .f32⟩
  | 37 => ⟨S_, .f32⟩
  | 38 => ⟨S_, .i1⟩
  | 39 => ⟨S_, .f32⟩
  | 40 => ⟨S_, .f32⟩
  | 41 => ⟨S_, .f32⟩
  | 42 => ⟨S8388608, .f32⟩
  | 43 => ⟨S8388608, .i1⟩
  | 44 => ⟨S_, .f32⟩
  | 45 => ⟨S8388608, .f32⟩
  | 46 => ⟨S8388608, .i1⟩
  | 47 => ⟨S8388608, .i1⟩
  | 48 => ⟨S8388608, .i32⟩
  | 49 => ⟨S_, .i32⟩
  | 50 => ⟨S_, .i32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .i1⟩
  | 62 => ⟨S8388608, .i1⟩
  | 63 => ⟨S8388608, .i1⟩
  | 64 => ⟨S8388608, .f32⟩
  | 65 => ⟨S8388608, .f32⟩
  | 66 => ⟨S_, .f32⟩
  | 67 => ⟨S_, .i1⟩
  | 68 => ⟨S_, .f32⟩
  | 69 => ⟨S_, .f32⟩
  | 70 => ⟨S_, .f32⟩
  | 71 => ⟨S8388608, .f32⟩
  | 72 => ⟨S8388608, .i1⟩
  | 73 => ⟨S_, .f32⟩
  | 74 => ⟨S8388608, .f32⟩
  | 75 => ⟨S8388608, .i1⟩
  | 76 => ⟨S8388608, .i1⟩
  | 77 => ⟨S8388608, .i32⟩
  | 78 => ⟨S_, .i32⟩
  | 79 => ⟨S_, .i32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .i1⟩
  | 91 => ⟨S8388608, .i1⟩
  | 92 => ⟨S8388608, .i1⟩
  | 93 => ⟨S8388608, .f32⟩
  | 94 => ⟨S8388608, .f32⟩
  | 95 => ⟨S_, .f32⟩
  | 96 => ⟨S_, .i1⟩
  | 97 => ⟨S_, .f32⟩
  | 98 => ⟨S_, .f32⟩
  | 99 => ⟨S_, .f32⟩
  | 100 => ⟨S8388608, .f32⟩
  | 101 => ⟨S8388608, .i1⟩
  | 102 => ⟨S_, .f32⟩
  | 103 => ⟨S8388608, .f32⟩
  | 104 => ⟨S8388608, .i1⟩
  | 105 => ⟨S8388608, .i1⟩
  | 106 => ⟨S8388608, .i32⟩
  | 107 => ⟨S_, .i32⟩
  | 108 => ⟨S_, .i32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .i1⟩
  | 120 => ⟨S8388608, .i1⟩
  | 121 => ⟨S8388608, .i1⟩
  | 122 => ⟨S8388608, .f32⟩
  | 123 => ⟨S8388608, .f32⟩
  | 124 => ⟨S_, .f32⟩
  | 125 => ⟨S_, .i1⟩
  | 126 => ⟨S_, .f32⟩
  | 127 => ⟨S_, .f32⟩
  | _ => ⟨S8388608x2, .f32⟩

abbrev hbmTy0_2 (i : Nat) : BufTy := match i % 128 with
  | 0 => ⟨S_, .f32⟩
  | 1 => ⟨S8388608, .f32⟩
  | 2 => ⟨S8388608, .i1⟩
  | 3 => ⟨S_, .f32⟩
  | 4 => ⟨S8388608, .f32⟩
  | 5 => ⟨S8388608, .i1⟩
  | 6 => ⟨S8388608, .i1⟩
  | 7 => ⟨S8388608, .i32⟩
  | 8 => ⟨S_, .i32⟩
  | 9 => ⟨S_, .i32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .i1⟩
  | 21 => ⟨S8388608, .i1⟩
  | 22 => ⟨S8388608, .i1⟩
  | 23 => ⟨S8388608, .f32⟩
  | 24 => ⟨S8388608, .f32⟩
  | 25 => ⟨S_, .f32⟩
  | 26 => ⟨S_, .i1⟩
  | 27 => ⟨S_, .f32⟩
  | 28 => ⟨S_, .f32⟩
  | 29 => ⟨S_, .f32⟩
  | 30 => ⟨S8388608, .f32⟩
  | 31 => ⟨S8388608, .i1⟩
  | 32 => ⟨S_, .f32⟩
  | 33 => ⟨S8388608, .f32⟩
  | 34 => ⟨S8388608, .i1⟩
  | 35 => ⟨S8388608, .i1⟩
  | 36 => ⟨S8388608, .i32⟩
  | 37 => ⟨S_, .i32⟩
  | 38 => ⟨S_, .i32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .i1⟩
  | 50 => ⟨S8388608, .i1⟩
  | 51 => ⟨S8388608, .i1⟩
  | 52 => ⟨S8388608, .f32⟩
  | 53 => ⟨S8388608, .f32⟩
  | 54 => ⟨S_, .f32⟩
  | 55 => ⟨S_, .i1⟩
  | 56 => ⟨S_, .f32⟩
  | 57 => ⟨S_, .f32⟩
  | 58 => ⟨S_, .f32⟩
  | 59 => ⟨S_, .i1⟩
  | 60 => ⟨S_, .f32⟩
  | 61 => ⟨S_, .f32⟩
  | 62 => ⟨S8388608, .f32⟩
  | 63 => ⟨S8388608, .f32⟩
  | 64 => ⟨S8388608, .f32⟩
  | 65 => ⟨S8388608x2, .i32⟩
  | 66 => ⟨S_, .f32⟩
  | 67 => ⟨S_, .i32⟩
  | 68 => ⟨S8388608, .f32⟩
  | 69 => ⟨S8388608, .i32⟩
  | 70 => ⟨S_, .f32⟩
  | 71 => ⟨S8388608, .f32⟩
  | 72 => ⟨S_, .f32⟩
  | 73 => ⟨S8388608, .f32⟩
  | 74 => ⟨S8388608, .f32⟩
  | 75 => ⟨S8388608x1, .f32⟩
  | 76 => ⟨S8388608x2, .f32⟩
  | 77 => ⟨S8388608x2, .f32⟩
  | 78 => ⟨S8388608x2, .f32⟩
  | 79 => ⟨S_, .f32⟩
  | 80 => ⟨S8388608, .f32⟩
  | 81 => ⟨S8388608x1, .f32⟩
  | 82 => ⟨S8388608x1, .f32⟩
  | 83 => ⟨S8388608x2, .f32⟩
  | 84 => ⟨S8388608x2, .f32⟩
  | 85 => ⟨S8388608x1, .i32⟩
  | 86 => ⟨S_, .i32⟩
  | 87 => ⟨S8388608x1, .i32⟩
  | 88 => ⟨S8388608x1, .i1⟩
  | 89 => ⟨S_, .i32⟩
  | 90 => ⟨S8388608x1, .i32⟩
  | 91 => ⟨S8388608x1, .i32⟩
  | 92 => ⟨S8388608x1, .i32⟩
  | 93 => ⟨S8388608x1x1, .i32⟩
  | 94 => ⟨S1, .i32⟩
  | 95 => ⟨S_, .i32⟩
  | 96 => ⟨S8388608x1x1, .i32⟩
  | 97 => ⟨S8388608x1x1, .i1⟩
  | 98 => ⟨S1x1x1, .i32⟩
  | 99 => ⟨S8388608x1x1, .i32⟩
  | 100 => ⟨S8388608x1x1, .i1⟩
  | 101 => ⟨S8388608x1x1, .i1⟩
  | 102 => ⟨S_, .i1⟩
  | 103 => ⟨S8388608x1, .i1⟩
  | 104 => ⟨S8388608x1, .f32⟩
  | 105 => ⟨S_, .f32⟩
  | 106 => ⟨S8388608x1, .f32⟩
  | 107 => ⟨S8388608x1, .f32⟩
  | 108 => ⟨S8388608, .f32⟩
  | 109 => ⟨S8388608, .f32⟩
  | 110 => ⟨S8388608, .f32⟩
  | 111 => ⟨S_, .f32⟩
  | 112 => ⟨S_, .f32⟩
  | 113 => ⟨S_, .f32⟩
  | 114 => ⟨S_, .f32⟩
  | 115 => ⟨S1x1, .f32⟩
  | _ => ⟨S8388608x2, .f32⟩

abbrev hbmTy (i : Nat) : BufTy := match i / 128 with
  | 0 => hbmTy0_0 i
  | 1 => hbmTy0_1 i
  | 2 => hbmTy0_2 i
  | _ => ⟨S8388608x2, .f32⟩

abbrev bufTy : (tb : Table) → Fin (tcTables nBuf tb) → BufTy
  | .hbm, ⟨i, _⟩ => hbmTy i
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_cst_9 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_cst_12 : Ref sig .tc := ⟨.hbm, 51, rfl⟩
abbrev main_v34 : Ref sig .tc := ⟨.hbm, 52, rfl⟩
abbrev main_cst_13 : Ref sig .tc := ⟨.hbm, 53, rfl⟩
abbrev main_v35 : Ref sig .tc := ⟨.hbm, 54, rfl⟩
abbrev main_v36 : Ref sig .tc := ⟨.hbm, 55, rfl⟩
abbrev main_cst_14 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_15 : Ref sig .tc := ⟨.hbm, 61, rfl⟩
abbrev main_v41 : Ref sig .tc := ⟨.hbm, 62, rfl⟩
abbrev main_v42 : Ref sig .tc := ⟨.hbm, 63, rfl⟩
abbrev main_cst_16 : Ref sig .tc := ⟨.hbm, 64, rfl⟩
abbrev main_v43 : Ref sig .tc := ⟨.hbm, 65, rfl⟩
abbrev main_cst_17 : Ref sig .tc := ⟨.hbm, 66, rfl⟩
abbrev main_v44 : Ref sig .tc := ⟨.hbm, 67, rfl⟩
abbrev main_cst_18 : Ref sig .tc := ⟨.hbm, 68, rfl⟩
abbrev main_v45 : Ref sig .tc := ⟨.hbm, 69, rfl⟩
abbrev main_cst_19 : Ref sig .tc := ⟨.hbm, 70, rfl⟩
abbrev main_v46 : Ref sig .tc := ⟨.hbm, 71, rfl⟩
abbrev main_cst_20 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_v0 : Ref sig .tc := ⟨.hbm, 76, rfl⟩
abbrev main_v50 : Ref sig .tc := ⟨.hbm, 77, rfl⟩
abbrev main_cst_21 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_22 : Ref sig .tc := ⟨.hbm, 82, rfl⟩
abbrev main_v54 : Ref sig .tc := ⟨.hbm, 83, rfl⟩
abbrev main_v55 : Ref sig .tc := ⟨.hbm, 84, rfl⟩
abbrev main_cst_23 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_24 : Ref sig .tc := ⟨.hbm, 90, rfl⟩
abbrev main_v60 : Ref sig .tc := ⟨.hbm, 91, rfl⟩
abbrev main_v61 : Ref sig .tc := ⟨.hbm, 92, rfl⟩
abbrev main_cst_25 : Ref sig .tc := ⟨.hbm, 93, rfl⟩
abbrev main_v62 : Ref sig .tc := ⟨.hbm, 94, rfl⟩
abbrev main_cst_26 : Ref sig .tc := ⟨.hbm, 95, rfl⟩
abbrev main_v63 : Ref sig .tc := ⟨.hbm, 96, rfl⟩
abbrev main_cst_27 : Ref sig .tc := ⟨.hbm, 97, rfl⟩
abbrev main_v64 : Ref sig .tc := ⟨.hbm, 98, rfl⟩
abbrev main_cst_28 : Ref sig .tc := ⟨.hbm, 99, rfl⟩
abbrev main_v65 : Ref sig .tc := ⟨.hbm, 100, rfl⟩
abbrev main_cst_29 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_call2_v0 : Ref sig .tc := ⟨.hbm, 105, rfl⟩
abbrev main_v69 : Ref sig .tc := ⟨.hbm, 106, rfl⟩
abbrev main_cst_30 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_31 : Ref sig .tc := ⟨.hbm, 111, rfl⟩
abbrev main_v73 : Ref sig .tc := ⟨.hbm, 112, rfl⟩
abbrev main_v74 : Ref sig .tc := ⟨.hbm, 113, rfl⟩
abbrev main_cst_32 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_33 : Ref sig .tc := ⟨.hbm, 119, rfl⟩
abbrev main_v79 : Ref sig .tc := ⟨.hbm, 120, rfl⟩
abbrev main_v80 : Ref sig .tc := ⟨.hbm, 121, rfl⟩
abbrev main_cst_34 : Ref sig .tc := ⟨.hbm, 122, rfl⟩
abbrev main_v81 : Ref sig .tc := ⟨.hbm, 123, rfl⟩
abbrev main_cst_35 : Ref sig .tc := ⟨.hbm, 124, rfl⟩
abbrev main_v82 : Ref sig .tc := ⟨.hbm, 125, rfl⟩
abbrev main_cst_36 : Ref sig .tc := ⟨.hbm, 126, rfl⟩
abbrev main_v83 : Ref sig .tc := ⟨.hbm, 127, rfl⟩
abbrev main_cst_37 : Ref sig .tc := ⟨.hbm, 128, rfl⟩
abbrev main_v84 : Ref sig .tc := ⟨.hbm, 129, rfl⟩
abbrev main_cst_38 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_call3_v0 : Ref sig .tc := ⟨.hbm, 134, rfl⟩
abbrev main_v88 : Ref sig .tc := ⟨.hbm, 135, rfl⟩
abbrev main_cst_39 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_40 : Ref sig .tc := ⟨.hbm, 140, rfl⟩
abbrev main_v92 : Ref sig .tc := ⟨.hbm, 141, rfl⟩
abbrev main_v93 : Ref sig .tc := ⟨.hbm, 142, rfl⟩
abbrev main_cst_41 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_c_42 : Ref sig .tc := ⟨.hbm, 148, rfl⟩
abbrev main_v98 : Ref sig .tc := ⟨.hbm, 149, rfl⟩
abbrev main_v99 : Ref sig .tc := ⟨.hbm, 150, rfl⟩
abbrev main_cst_43 : Ref sig .tc := ⟨.hbm, 151, rfl⟩
abbrev main_v100 : Ref sig .tc := ⟨.hbm, 152, rfl⟩
abbrev main_cst_44 : Ref sig .tc := ⟨.hbm, 153, rfl⟩
abbrev main_v101 : Ref sig .tc := ⟨.hbm, 154, rfl⟩
abbrev main_cst_45 : Ref sig .tc := ⟨.hbm, 155, rfl⟩
abbrev main_v102 : Ref sig .tc := ⟨.hbm, 156, rfl⟩
abbrev main_cst_46 : Ref sig .tc := ⟨.hbm, 157, rfl⟩
abbrev main_v103 : Ref sig .tc := ⟨.hbm, 158, rfl⟩
abbrev main_cst_47 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_call4_v0 : Ref sig .tc := ⟨.hbm, 163, rfl⟩
abbrev main_v107 : Ref sig .tc := ⟨.hbm, 164, rfl⟩
abbrev main_cst_48 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_cst_49 : Ref sig .tc := ⟨.hbm, 169, rfl⟩
abbrev main_v111 : Ref sig .tc := ⟨.hbm, 170, rfl⟩
abbrev main_v112 : Ref sig .tc := ⟨.hbm, 171, rfl⟩
abbrev main_cst_50 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_c_51 : Ref sig .tc := ⟨.hbm, 177, rfl⟩
abbrev main_v117 : Ref sig .tc := ⟨.hbm, 178, rfl⟩
abbrev main_v118 : Ref sig .tc := ⟨.hbm, 179, rfl⟩
abbrev main_cst_52 : Ref sig .tc := ⟨.hbm, 180, rfl⟩
abbrev main_v119 : Ref sig .tc := ⟨.hbm, 181, rfl⟩
abbrev main_cst_53 : Ref sig .tc := ⟨.hbm, 182, rfl⟩
abbrev main_v120 : Ref sig .tc := ⟨.hbm, 183, rfl⟩
abbrev main_cst_54 : Ref sig .tc := ⟨.hbm, 184, rfl⟩
abbrev main_v121 : Ref sig .tc := ⟨.hbm, 185, rfl⟩
abbrev main_cst_55 : Ref sig .tc := ⟨.hbm, 186, rfl⟩
abbrev main_v122 : Ref sig .tc := ⟨.hbm, 187, rfl⟩
abbrev main_cst_56 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_call5_v0 : Ref sig .tc := ⟨.hbm, 192, rfl⟩
abbrev main_v126 : Ref sig .tc := ⟨.hbm, 193, rfl⟩
abbrev main_cst_57 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_cst_58 : Ref sig .tc := ⟨.hbm, 198, rfl⟩
abbrev main_v130 : Ref sig .tc := ⟨.hbm, 199, rfl⟩
abbrev main_v131 : Ref sig .tc := ⟨.hbm, 200, rfl⟩
abbrev main_cst_59 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_c_60 : Ref sig .tc := ⟨.hbm, 206, rfl⟩
abbrev main_v136 : Ref sig .tc := ⟨.hbm, 207, rfl⟩
abbrev main_v137 : Ref sig .tc := ⟨.hbm, 208, rfl⟩
abbrev main_cst_61 : Ref sig .tc := ⟨.hbm, 209, rfl⟩
abbrev main_v138 : Ref sig .tc := ⟨.hbm, 210, rfl⟩
abbrev main_cst_62 : Ref sig .tc := ⟨.hbm, 211, rfl⟩
abbrev main_v139 : Ref sig .tc := ⟨.hbm, 212, rfl⟩
abbrev main_cst_63 : Ref sig .tc := ⟨.hbm, 213, rfl⟩
abbrev main_v140 : Ref sig .tc := ⟨.hbm, 214, rfl⟩
abbrev main_cst_64 : Ref sig .tc := ⟨.hbm, 215, rfl⟩
abbrev main_v141 : Ref sig .tc := ⟨.hbm, 216, rfl⟩
abbrev main_cst_65 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_call6_v0 : Ref sig .tc := ⟨.hbm, 221, rfl⟩
abbrev main_v145 : Ref sig .tc := ⟨.hbm, 222, rfl⟩
abbrev main_cst_66 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_cst_67 : Ref sig .tc := ⟨.hbm, 227, rfl⟩
abbrev main_v149 : Ref sig .tc := ⟨.hbm, 228, rfl⟩
abbrev main_v150 : Ref sig .tc := ⟨.hbm, 229, rfl⟩
abbrev main_cst_68 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_c_69 : Ref sig .tc := ⟨.hbm, 235, rfl⟩
abbrev main_v155 : Ref sig .tc := ⟨.hbm, 236, rfl⟩
abbrev main_v156 : Ref sig .tc := ⟨.hbm, 237, rfl⟩
abbrev main_cst_70 : Ref sig .tc := ⟨.hbm, 238, rfl⟩
abbrev main_v157 : Ref sig .tc := ⟨.hbm, 239, rfl⟩
abbrev main_cst_71 : Ref sig .tc := ⟨.hbm, 240, rfl⟩
abbrev main_v158 : Ref sig .tc := ⟨.hbm, 241, rfl⟩
abbrev main_cst_72 : Ref sig .tc := ⟨.hbm, 242, rfl⟩
abbrev main_v159 : Ref sig .tc := ⟨.hbm, 243, rfl⟩
abbrev main_cst_73 : Ref sig .tc := ⟨.hbm, 244, rfl⟩
abbrev main_v160 : Ref sig .tc := ⟨.hbm, 245, rfl⟩
abbrev main_cst_74 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_call7_v0 : Ref sig .tc := ⟨.hbm, 250, rfl⟩
abbrev main_v164 : Ref sig .tc := ⟨.hbm, 251, rfl⟩
abbrev main_cst_75 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_cst_76 : Ref sig .tc := ⟨.hbm, 256, rfl⟩
abbrev main_v168 : Ref sig .tc := ⟨.hbm, 257, rfl⟩
abbrev main_v169 : Ref sig .tc := ⟨.hbm, 258, rfl⟩
abbrev main_cst_77 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_c_78 : Ref sig .tc := ⟨.hbm, 264, rfl⟩
abbrev main_v174 : Ref sig .tc := ⟨.hbm, 265, rfl⟩
abbrev main_v175 : Ref sig .tc := ⟨.hbm, 266, rfl⟩
abbrev main_cst_79 : Ref sig .tc := ⟨.hbm, 267, rfl⟩
abbrev main_v176 : Ref sig .tc := ⟨.hbm, 268, rfl⟩
abbrev main_cst_80 : Ref sig .tc := ⟨.hbm, 269, rfl⟩
abbrev main_v177 : Ref sig .tc := ⟨.hbm, 270, rfl⟩
abbrev main_cst_81 : Ref sig .tc := ⟨.hbm, 271, rfl⟩
abbrev main_v178 : Ref sig .tc := ⟨.hbm, 272, rfl⟩
abbrev main_cst_82 : Ref sig .tc := ⟨.hbm, 273, rfl⟩
abbrev main_v179 : Ref sig .tc := ⟨.hbm, 274, rfl⟩
abbrev main_cst_83 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_call8_v0 : Ref sig .tc := ⟨.hbm, 279, rfl⟩
abbrev main_v183 : Ref sig .tc := ⟨.hbm, 280, rfl⟩
abbrev main_cst_84 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_cst_85 : Ref sig .tc := ⟨.hbm, 285, rfl⟩
abbrev main_v187 : Ref sig .tc := ⟨.hbm, 286, rfl⟩
abbrev main_v188 : Ref sig .tc := ⟨.hbm, 287, rfl⟩
abbrev main_cst_86 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_c_87 : Ref sig .tc := ⟨.hbm, 293, rfl⟩
abbrev main_v193 : Ref sig .tc := ⟨.hbm, 294, rfl⟩
abbrev main_v194 : Ref sig .tc := ⟨.hbm, 295, rfl⟩
abbrev main_cst_88 : Ref sig .tc := ⟨.hbm, 296, rfl⟩
abbrev main_v195 : Ref sig .tc := ⟨.hbm, 297, rfl⟩
abbrev main_cst_89 : Ref sig .tc := ⟨.hbm, 298, rfl⟩
abbrev main_v196 : Ref sig .tc := ⟨.hbm, 299, rfl⟩
abbrev main_cst_90 : Ref sig .tc := ⟨.hbm, 300, rfl⟩
abbrev main_v197 : Ref sig .tc := ⟨.hbm, 301, rfl⟩
abbrev main_cst_91 : Ref sig .tc := ⟨.hbm, 302, rfl⟩
abbrev main_v198 : Ref sig .tc := ⟨.hbm, 303, rfl⟩
abbrev main_cst_92 : Ref sig .tc := ⟨.hbm, 304, rfl⟩
abbrev main_v199 : Ref sig .tc := ⟨.hbm, 305, rfl⟩
abbrev main_v200 : Ref sig .tc := ⟨.hbm, 306, rfl⟩
abbrev main_v201 : Ref sig .tc := ⟨.hbm, 307, rfl⟩
abbrev main_call9_v0 : Ref sig .tc := ⟨.hbm, 308, rfl⟩
abbrev main_v202 : Ref sig .tc := ⟨.hbm, 309, rfl⟩
abbrev main_cst_93 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_cst_94 : Ref sig .tc := ⟨.hbm, 314, rfl⟩
abbrev main_v206 : Ref sig .tc := ⟨.hbm, 315, rfl⟩
abbrev main_cst_95 : Ref sig .tc := ⟨.hbm, 316, rfl⟩
abbrev main_v207 : Ref sig .tc := ⟨.hbm, 317, rfl⟩
abbrev main_v208 : Ref sig .tc := ⟨.hbm, 318, rfl⟩
abbrev main_v209 : Ref sig .tc := ⟨.hbm, 319, rfl⟩
abbrev main_v210 : Ref sig .tc := ⟨.hbm, 320, rfl⟩
abbrev main_call11_v0 : Ref sig .tc := ⟨.hbm, 321, rfl⟩
abbrev main_call11_cst : Ref sig .tc := ⟨.hbm, 322, rfl⟩
abbrev main_call11_c : Ref sig .tc := ⟨.hbm, 323, rfl⟩
abbrev main_call11_v1_0 : Ref sig .tc := ⟨.hbm, 324, rfl⟩
abbrev main_v211 : Ref sig .tc := ⟨.hbm, 325, rfl⟩
abbrev main_call12_cst : Ref sig .tc := ⟨.hbm, 326, rfl⟩
abbrev main_call12_v0 : Ref sig .tc := ⟨.hbm, 327, rfl⟩
abbrev main_call12_cst_0 : Ref sig .tc := ⟨.hbm, 328, rfl⟩
abbrev main_call12_v1 : Ref sig .tc := ⟨.hbm, 329, rfl⟩
abbrev main_call12_v2 : Ref sig .tc := ⟨.hbm, 330, rfl⟩
abbrev main_call12_v3 : Ref sig .tc := ⟨.hbm, 331, rfl⟩
abbrev main_call12_v4 : Ref sig .tc := ⟨.hbm, 332, rfl⟩
abbrev main_call12_v5 : Ref sig .tc := ⟨.hbm, 333, rfl⟩
abbrev main_call12_v6 : Ref sig .tc := ⟨.hbm, 334, rfl⟩
abbrev main_call12_cst_1 : Ref sig .tc := ⟨.hbm, 335, rfl⟩
abbrev main_call12_v7 : Ref sig .tc := ⟨.hbm, 336, rfl⟩
abbrev main_call12_v8 : Ref sig .tc := ⟨.hbm, 337, rfl⟩
abbrev main_call12_v9 : Ref sig .tc := ⟨.hbm, 338, rfl⟩
abbrev main_call12_v10 : Ref sig .tc := ⟨.hbm, 339, rfl⟩
abbrev main_v212 : Ref sig .tc := ⟨.hbm, 340, rfl⟩
abbrev main_v213 : Ref sig .tc := ⟨.hbm, 341, rfl⟩
abbrev main_call13_c : Ref sig .tc := ⟨.hbm, 342, rfl⟩
abbrev main_call13_v0 : Ref sig .tc := ⟨.hbm, 343, rfl⟩
abbrev main_call13_v1 : Ref sig .tc := ⟨.hbm, 344, rfl⟩
abbrev main_call13_c_0 : Ref sig .tc := ⟨.hbm, 345, rfl⟩
abbrev main_call13_v2 : Ref sig .tc := ⟨.hbm, 346, rfl⟩
abbrev main_call13_v3 : Ref sig .tc := ⟨.hbm, 347, rfl⟩
abbrev main_call13_v4 : Ref sig .tc := ⟨.hbm, 348, rfl⟩
abbrev main_call13_v5 : Ref sig .tc := ⟨.hbm, 349, rfl⟩
abbrev main_call13_c_1 : Ref sig .tc := ⟨.hbm, 350, rfl⟩
abbrev main_call13_c_2 : Ref sig .tc := ⟨.hbm, 351, rfl⟩
abbrev main_call13_v6 : Ref sig .tc := ⟨.hbm, 352, rfl⟩
abbrev main_call13_v7 : Ref sig .tc := ⟨.hbm, 353, rfl⟩
abbrev main_call13_v8 : Ref sig .tc := ⟨.hbm, 354, rfl⟩
abbrev main_call13_v9 : Ref sig .tc := ⟨.hbm, 355, rfl⟩
abbrev main_call13_v10 : Ref sig .tc := ⟨.hbm, 356, rfl⟩
abbrev main_call13_v11 : Ref sig .tc := ⟨.hbm, 357, rfl⟩
abbrev main_call13_c_3 : Ref sig .tc := ⟨.hbm, 358, rfl⟩
abbrev main_call13_v12 : Ref sig .tc := ⟨.hbm, 359, rfl⟩
abbrev main_call13_v13 : Ref sig .tc := ⟨.hbm, 360, rfl⟩
abbrev main_call13_cst : Ref sig .tc := ⟨.hbm, 361, rfl⟩
abbrev main_call13_v14 : Ref sig .tc := ⟨.hbm, 362, rfl⟩
abbrev main_v214 : Ref sig .tc := ⟨.hbm, 363, rfl⟩
abbrev main_v215 : Ref sig .tc := ⟨.hbm, 364, rfl⟩
abbrev main_v216 : Ref sig .tc := ⟨.hbm, 365, rfl⟩
abbrev main_v217 : Ref sig .tc := ⟨.hbm, 366, rfl⟩
abbrev main_cst_96 : Ref sig .tc := ⟨.hbm, 367, rfl⟩
abbrev main_v218 : Ref sig .tc := ⟨.hbm, 368, rfl⟩
abbrev main_cst_97 : Ref sig .tc := ⟨.hbm, 369, rfl⟩
abbrev main_v219 : Ref sig .tc := ⟨.hbm, 370, rfl⟩
abbrev main_v220 : Ref sig .tc := ⟨.hbm, 371, rfl⟩

abbrev nD : Nat := 1
abbrev τ : Topo := Topo.v7x

variable {F : FTy → Type} [FloatOps F]
-- ==== Proof.Lines.lean ====
/- The reference's host operations as one line of lines: the opening that computes the gradient norm of
   every sample, ten copies of one bin's line, and the closing that computes the weighted mean. A buffer is
   named by its number in program order, so a bin's line is written once for all ten bins. -/
module

public import proofs.«01_k».proof.Proof.Gen.ReferenceIdeal
public import Idealize.ShloMosaic.Lib.StableHlo.Run
public import Idealize.ShloMosaic.Lib.Pipeline.Frame
public import Idealize.ShloMosaic.Lib.Tactic

@[expose] public section

set_option Elab.async false

noncomputable section

namespace Cert.ReferenceIdeal.Value

open Cert.ReferenceIdeal Cert.ReferenceIdeal.Gen Idealize.ShloMosaic Idealize.ShloMosaic.TcCoe Idealize.SL.Sem
open Idealize.ShloMosaic.StableHlo Idealize.ShloMosaic.Tactic

variable {F : FTy → Type} [FloatOps F]

/-- The buffer numbered `k`. -/
def hr (k : ℕ) (hk : k < 372 := by decide) : Ref sig .tc := ⟨.hbm, ⟨k, hk⟩, rfl⟩

/-- The buffer numbered `k`, at the type `T` it has. -/
def tr (k : ℕ) (T : BufTy) (hk : k < 372 := by decide) (ht : (hr k hk).ty = T := by rfl) : TRef sig T :=
  ⟨hr k hk, ht, by simp [hr], rfl⟩

/-- Buffers of different numbers are different. -/
theorem tr_ne {k k' : ℕ} {T T' : BufTy} {hk : k < 372} {hk' : k' < 372} {ht ht'} (h : k ≠ k') :
    (tr k T hk ht).ref ≠ (tr k' T' hk' ht').ref := by
  intro e
  exact h (congrArg (fun r : Ref sig .tc => r.idx.val) e)

/-- The copy of one buffer into another of a different shape. -/
def recast {Ta Ty : BufTy} (a : TRef sig Ta) (y : TRef sig Ty) (he : Ta.elt = Ty.elt) (hn : Ta.shape.ShapeCasts Ty.shape) :
    HloOp τ sig (Elt F) :=
  TRef.reshape a y he hn

/-- A sample vector's type. -/
abbrev TV : BufTy := ⟨S8388608, .f32⟩
/-- A scalar's type. -/
abbrev TS : BufTy := ⟨S_, .f32⟩
/-- The type of the two columns. -/
abbrev TM : BufTy := ⟨S8388608x2, .f32⟩
/-- The type of a vector kept as one column. -/
abbrev TC : BufTy := ⟨S8388608x1, .f32⟩
/-- A vector of truth values. -/
abbrev TB : BufTy := ⟨S8388608, .i1⟩
/-- One truth value. -/
abbrev TP : BufTy := ⟨S_, .i1⟩

/-- Where bin `b`'s line starts. -/
def base (b : ℕ) : ℕ := if b = 0 then 23 else 24 + 29 * b

/-- A bin's buffers are among the program's. -/
theorem base_lt (b : Fin 10) (i : ℕ) (hi : i < 28) : base b + i < 372 := by
  unfold base; split <;> omega

/-- The type of the `i`-th buffer of a bin's line. -/
def bTy : ℕ → BufTy
  | 1 | 4 | 23 | 24 => TV
  | 2 | 5 | 6 | 21 | 22 => TB
  | 7 => ⟨S8388608, .i32⟩
  | 8 | 9 => ⟨S_, .i32⟩
  | 20 | 26 => TP
  | _ => TS

/-- The types of a bin's buffers. -/
theorem bin_ty : ∀ (b : Fin 10) (i : Fin 28), (hr (base b + i) (base_lt b i i.isLt)).ty = bTy i := by
  intro b i
  fin_cases b <;> fin_cases i <;> rfl

/-- The `i`-th buffer of bin `b`'s line. -/
abbrev bt (b : Fin 10) (i : ℕ) (T : BufTy) (hi : i < 28 := by decide) (h : bTy i = T := by rfl) : TRef sig T :=
  tr (base b + i) T (base_lt b i hi) ((bin_ty b ⟨i, hi⟩).trans h)

/-- The edges of the bins. -/
def edge : ℕ → BitVec 32
  | 0 => 0x00000000#32
  | 1 => 0x3DCCCCCD#32
  | 2 => 0x3E4CCCCD#32
  | 3 => 0x3E99999A#32
  | 4 => 0x3ECCCCCD#32
  | 5 => 0x3F000000#32
  | 6 => 0x3F19999A#32
  | 7 => 0x3F333333#32
  | 8 => 0x3F4CCCCD#32
  | 9 => 0x3F666666#32
  | _ => 0x3F800008#32

/-- The opening: the softmax of the logits, the gradient norm of every sample, and no weights. -/
def opening : List (HloOp τ sig (Elt F)) :=
  [ TRef.nullary (tr 2 TS) (constant S_ .f32 0xFF800000#32),
    TRef.binary (tr 0 TM) (tr 2 TS) (tr 3 TV) (fun x v => Host.reduce FloatOps.maximumf x v reducesTo_S8388608x2_S8388608_d1 h_S_),
    TRef.nullary (tr 4 TS) (constant S_ .f32 0xFF800000#32),
    TRef.unary (tr 4 TS) (tr 5 TV) (broadcastInDim S8388608 ![] bcast_S_S8388608),
    TRef.binary (tr 5 TV) (tr 3 TV) (tr 6 TV) maximumf,
    TRef.unary (tr 6 TV) (tr 7 TC) (broadcastInDim S8388608x1 ![0] bcast_S8388608_S8388608x1_0),
    TRef.unary (tr 7 TC) (tr 8 TM) (broadcastInDim S8388608x2 ![0, 1] bcast_S8388608x1_S8388608x2_0_1),
    TRef.binary (tr 0 TM) (tr 8 TM) (tr 9 TM) subf,
    TRef.unary (tr 9 TM) (tr 10 TM) Host.exp,
    TRef.nullary (tr 11 TS) (constant S_ .f32 0x00000000#32),
    TRef.binary (tr 10 TM) (tr 11 TS) (tr 12 TV) (fun x v => Host.reduceAdd x v reducesTo_S8388608x2_S8388608_d1 h_S_),
    TRef.unary (tr 12 TV) (tr 13 TC) (broadcastInDim S8388608x1 ![0] bcast_S8388608_S8388608x1_0),
    TRef.unary (tr 13 TC) (tr 14 TM) (broadcastInDim S8388608x2 ![0, 1] bcast_S8388608x1_S8388608x2_0_1),
    TRef.binary (tr 10 TM) (tr 14 TM) (tr 15 TM) Host.divf,
    TRef.binary (tr 15 TM) (tr 1 TM) (tr 16 TM) subf,
    TRef.unary (tr 16 TM) (tr 17 TM) Host.absf,
    TRef.binary (tr 17 TM) (tr 1 TM) (tr 18 TM) mulf,
    TRef.nullary (tr 19 TS) (constant S_ .f32 0x00000000#32),
    TRef.binary (tr 18 TM) (tr 19 TS) (tr 20 TV) (fun x v => Host.reduceAdd x v reducesTo_S8388608x2_S8388608_d1 h_S_),
    TRef.nullary (tr 21 TS) (constant S_ .f32 0x00000000#32),
    TRef.unary (tr 21 TS) (tr 22 TV) (broadcastInDim S8388608 ![] bcast_S_S8388608) ]

/-- Bin `b`'s line over the norms `g` and the weights `w` so far. -/
def binLine (b : Fin 10) (g w : TRef sig TV) : List (HloOp τ sig (Elt F)) :=
  [ TRef.nullary (bt b 0 TS) (constant S_ .f32 (edge b)),
    TRef.unary (bt b 0 TS) (bt b 1 TV) (broadcastInDim S8388608 ![] bcast_S_S8388608),
    TRef.binary g (bt b 1 TV) (bt b 2 TB) (cmpf .oge),
    TRef.nullary (bt b 3 TS) (constant S_ .f32 (edge (b + 1))),
    TRef.unary (bt b 3 TS) (bt b 4 TV) (broadcastInDim S8388608 ![] bcast_S_S8388608),
    TRef.binary g (bt b 4 TV) (bt b 5 TB) (cmpf .olt),
    TRef.binary (bt b 2 TB) (bt b 5 TB) (bt b 6 TB) andi,
    TRef.unary (bt b 6 TB) (bt b 7 ⟨S8388608, .i32⟩) (extui 32 · natLt_1_32),
    TRef.nullary (bt b 8 ⟨S_, .i32⟩) (constantI S_ 32 0#32),
    TRef.binary (bt b 7 ⟨S8388608, .i32⟩) (bt b 8 ⟨S_, .i32⟩) (bt b 9 ⟨S_, .i32⟩)
      (fun x v => Host.reduce IntOp.addi x v reducesTo_S8388608_S_d0 h_S_),
    TRef.unary (bt b 9 ⟨S_, .i32⟩) (bt b 10 TS) (sitofp .f32),
    TRef.nullary (bt b 11 TS) (constant S_ .f32 0x3DCCCCCD#32),
    TRef.binary (bt b 11 TS) (bt b 10 TS) (bt b 12 TS) mulf,
    TRef.nullary (bt b 13 TS) (constant S_ .f32 0x00000000#32),
    TRef.binary (bt b 13 TS) (bt b 12 TS) (bt b 14 TS) addf,
    TRef.nullary (bt b 15 TS) (constant S_ .f32 0x2B8CBCCC#32),
    TRef.binary (bt b 14 TS) (bt b 15 TS) (bt b 16 TS) maximumf,
    TRef.nullary (bt b 17 TS) (constant S_ .f32 0x4B000000#32),
    TRef.binary (bt b 17 TS) (bt b 16 TS) (bt b 18 TS) Host.divf,
    TRef.nullary (bt b 19 TS) (constant S_ .f32 0x00000000#32),
    TRef.binary (bt b 10 TS) (bt b 19 TS) (bt b 20 TP) (cmpf .ogt),
    TRef.unary (bt b 20 TP) (bt b 21 TB) (broadcastInDim S8388608 ![] bcast_S_S8388608),
    TRef.binary (bt b 6 TB) (bt b 21 TB) (bt b 22 TB) andi,
    TRef.unary (bt b 18 TS) (bt b 23 TV) (broadcastInDim S8388608 ![] bcast_S_S8388608),
    TRef.ternary (bt b 22 TB) (bt b 23 TV) w (bt b 24 TV) select,
    TRef.nullary (bt b 25 TS) (constant S_ .f32 0x00000000#32),
    TRef.binary (bt b 10 TS) (bt b 25 TS) (bt b 26 TP) (cmpf .ogt),
    TRef.unary (bt b 26 TP) (bt b 27 TS) (uitofp .f32) ]

/-- The number of bins in use is a scalar, after every bin. -/
theorem n_ty : ∀ b : Fin 11, (hr (24 + 29 * b - 1 + (if b.val = 0 then 28 else 0)) (by split <;> omega)).ty = TS := by
  intro b
  fin_cases b <;> rfl

/-- Where the number of bins in use is kept before bin `b`: a constant, then each bin's own sum. -/
def nAt (b : Fin 11) : TRef sig TS :=
  tr (24 + 29 * b - 1 + (if b.val = 0 then 28 else 0)) TS (by split <;> omega) (n_ty b)

/-- The weights are a sample vector, after every bin. -/
theorem w_ty : ∀ b : Fin 11, (hr (if b.val = 0 then 22 else base (b - 1) + 24) (by unfold base; split_ifs <;> omega)).ty = TV := by
  intro b
  fin_cases b <;> rfl

/-- Where the weights are kept before bin `b`. -/
def wAt (b : Fin 11) : TRef sig TV :=
  tr (if b.val = 0 then 22 else base (b - 1) + 24) TV (by unfold base; split_ifs <;> omega) (w_ty b)

/-- Bin `b`'s line with the sum that counts it. -/
def binAll (b : Fin 10) : List (HloOp τ sig (Elt F)) :=
  binLine b (tr 20 TV) (wAt b.castSucc)
    ++ ((if b.val = 0 then [TRef.nullary (nAt b.castSucc) (constant S_ .f32 0x00000000#32)] else [])
    ++ [TRef.binary (nAt b.castSucc) (bt b 27 TS) (nAt b.succ) addf])

/-- A column of indices. -/
abbrev TI : BufTy := ⟨S8388608x1, .i32⟩
/-- The indices as the gather takes them. -/
abbrev TG : BufTy := ⟨S8388608x1x1, .i32⟩
/-- Which of them lie within the columns. -/
abbrev TQ : BufTy := ⟨S8388608x1x1, .i1⟩

/-- The weights over the number of bins in use. -/
def scaling : List (HloOp τ sig (Elt F)) :=
  [ TRef.nullary (tr 314 TS) (constant S_ .f32 0x00000000#32),
    TRef.binary (tr 313 TS) (tr 314 TS) (tr 315 TP) (cmpf .ogt),
    TRef.nullary (tr 316 TS) (constant S_ .f32 0x3F800000#32),
    TRef.binary (tr 313 TS) (tr 316 TS) (tr 317 TS) maximumf,
    TRef.unary (tr 317 TS) (tr 318 TV) (broadcastInDim S8388608 ![] bcast_S_S8388608),
    TRef.binary (tr 309 TV) (tr 318 TV) (tr 319 TV) Host.divf,
    TRef.ternary (tr 315 TP) (tr 319 TV) (tr 309 TV) (tr 320 TV)
      (fun p a b => select (broadcastInDim S8388608 ![] bcast_S_S8388608 p) a b) ]

/-- The column of the larger target. -/
def labels : List (HloOp τ sig (Elt F)) :=
  [ TRef.nullary (tr 321 ⟨S8388608x2, .i32⟩) (iotaInDim S8388608x2 32 1),
    TRef.nullary (tr 322 TS) (constant S_ .f32 0xFF800000#32),
    TRef.nullary (tr 323 ⟨S_, .i32⟩) (constantI S_ 32 0#32),
    TRef.quaternary (tr 1 TM) (tr 321 ⟨S8388608x2, .i32⟩) (tr 322 TS) (tr 323 ⟨S_, .i32⟩) (tr 324 TV)
      (fun x y u v j => (Host.argReduce reducer_argmax_f32_i32 x y u v reducesTo_S8388608x2_S8388608_d1 h_S_ j).1),
    TRef.quaternary (tr 1 TM) (tr 321 ⟨S8388608x2, .i32⟩) (tr 322 TS) (tr 323 ⟨S_, .i32⟩) (tr 325 ⟨S8388608, .i32⟩)
      (fun x y u v j => (Host.argReduce reducer_argmax_f32_i32 x y u v reducesTo_S8388608x2_S8388608_d1 h_S_ j).2) ]

/-- The logarithm of the softmax. -/
def logSoftmax : List (HloOp τ sig (Elt F)) :=
  [ TRef.nullary (tr 326 TS) (constant S_ .f32 0xFF800000#32),
    TRef.binary (tr 0 TM) (tr 326 TS) (tr 327 TV) (fun x v => Host.reduce FloatOps.maximumf x v reducesTo_S8388608x2_S8388608_d1 h_S_),
    TRef.nullary (tr 328 TS) (constant S_ .f32 0xFF800000#32),
    TRef.unary (tr 328 TS) (tr 329 TV) (broadcastInDim S8388608 ![] bcast_S_S8388608),
    TRef.binary (tr 329 TV) (tr 327 TV) (tr 330 TV) maximumf,
    TRef.unary (tr 330 TV) (tr 331 TC) (broadcastInDim S8388608x1 ![0] bcast_S8388608_S8388608x1_0),
    TRef.unary (tr 331 TC) (tr 332 TM) (broadcastInDim S8388608x2 ![0, 1] bcast_S8388608x1_S8388608x2_0_1),
    TRef.binary (tr 0 TM) (tr 332 TM) (tr 333 TM) subf,
    TRef.unary (tr 333 TM) (tr 334 TM) Host.exp,
    TRef.nullary (tr 335 TS) (constant S_ .f32 0x00000000#32),
    TRef.binary (tr 334 TM) (tr 335 TS) (tr 336 TV) (fun x v => Host.reduceAdd x v reducesTo_S8388608x2_S8388608_d1 h_S_),
    TRef.unary (tr 336 TV) (tr 337 TC) (broadcastInDim S8388608x1 ![0] bcast_S8388608_S8388608x1_0),
    TRef.unary (tr 337 TC) (tr 338 TC) Host.log,
    TRef.unary (tr 338 TC) (tr 339 TM) (broadcastInDim S8388608x2 ![0, 1] bcast_S8388608x1_S8388608x2_0_1),
    TRef.binary (tr 333 TM) (tr 339 TM) (tr 340 TM) subf ]

/-- The entry of the logarithms in the label's column. -/
def picking : List (HloOp τ sig (Elt F)) :=
  [ TRef.unary (tr 325 ⟨S8388608, .i32⟩) (tr 341 TI) (broadcastInDim S8388608x1 ![0] bcast_S8388608_S8388608x1_0),
    TRef.nullary (tr 342 ⟨S_, .i32⟩) (constantI S_ 32 0#32),
    TRef.unary (tr 342 ⟨S_, .i32⟩) (tr 343 TI) (broadcastInDim S8388608x1 ![] bcast_S_S8388608x1),
    TRef.binary (tr 341 TI) (tr 343 TI) (tr 344 ⟨S8388608x1, .i1⟩) (cmpi .slt),
    TRef.nullary (tr 345 ⟨S_, .i32⟩) (constantI S_ 32 2#32),
    TRef.unary (tr 345 ⟨S_, .i32⟩) (tr 346 TI) (broadcastInDim S8388608x1 ![] bcast_S_S8388608x1),
    TRef.binary (tr 341 TI) (tr 346 TI) (tr 347 TI) addi,
    TRef.ternary (tr 344 ⟨S8388608x1, .i1⟩) (tr 347 TI) (tr 341 TI) (tr 348 TI) select,
    recast (tr 348 TI) (tr 349 TG) (rfl : (.i32 : EltTy) = .i32) shapeCasts_S8388608x1_S8388608x1x1,
    TRef.nullary (tr 350 ⟨S1, .i32⟩) (constantI S1 32 1#32),
    TRef.nullary (tr 351 ⟨S_, .i32⟩) (constantI S_ 32 0#32),
    TRef.unary (tr 351 ⟨S_, .i32⟩) (tr 352 TG) (broadcastInDim S8388608x1x1 ![] bcast_S_S8388608x1x1),
    TRef.binary (tr 349 TG) (tr 352 TG) (tr 353 TQ) (cmpi .sge),
    TRef.unary (tr 350 ⟨S1, .i32⟩) (tr 354 ⟨S1x1x1, .i32⟩) (broadcastInDim S1x1x1 ![2] bcast_S1_S1x1x1_2),
    TRef.unary (tr 354 ⟨S1x1x1, .i32⟩) (tr 355 TG) (broadcastInDim S8388608x1x1 ![0, 1, 2] bcast_S1x1x1_S8388608x1x1_0_1_2),
    TRef.binary (tr 349 TG) (tr 355 TG) (tr 356 TQ) (cmpi .sle),
    TRef.binary (tr 353 TQ) (tr 356 TQ) (tr 357 TQ) andi,
    TRef.nullary (tr 358 TP) (constantI S_ 1 1#1),
    TRef.binary (tr 357 TQ) (tr 358 TP) (tr 359 ⟨S8388608x1, .i1⟩)
      (fun x v => Host.reduce IntOp.andi x v reducesTo_S8388608x1x1_S8388608x1_d2 h_S_),
    TRef.binary (tr 340 TM) (tr 349 TG) (tr 360 TC)
      (fun x i => Host.gather gather_S8388608x2_S8388608x1x1_S8388608x1_n_1_0_0_1_2_11 x i),
    TRef.nullary (tr 361 TS) (constant S_ .f32 0x7FC00000#32),
    TRef.unary (tr 361 TS) (tr 362 TC) (broadcastInDim S8388608x1 ![] bcast_S_S8388608x1),
    TRef.ternary (tr 359 ⟨S8388608x1, .i1⟩) (tr 360 TC) (tr 362 TC) (tr 363 TC) select ]

/-- The mean of the weighted cross-entropies. -/
def mean : List (HloOp τ sig (Elt F)) :=
  [ recast (tr 363 TC) (tr 364 TV) (rfl : (.f32 : EltTy) = .f32) shapeCasts_S8388608x1_S8388608,
    TRef.unary (tr 364 TV) (tr 365 TV) Host.negf,
    TRef.binary (tr 320 TV) (tr 365 TV) (tr 366 TV) mulf,
    TRef.nullary (tr 367 TS) (constant S_ .f32 0x00000000#32),
    TRef.binary (tr 366 TV) (tr 367 TS) (tr 368 TS) (fun x v => Host.reduceAdd x v reducesTo_S8388608_S_d0 h_S_),
    TRef.nullary (tr 369 TS) (constant S_ .f32 0x4B000000#32),
    TRef.binary (tr 368 TS) (tr 369 TS) (tr 370 TS) Host.divf,
    recast (tr 370 TS) (tr 371 ⟨S1x1, .f32⟩) (rfl : (.f32 : EltTy) = .f32) shapeCasts_S_S1x1 ]

/-- The lines of the first `b` bins. -/
def bins : (b : ℕ) → b ≤ 10 → List (HloOp τ sig (Elt F))
  | 0, _ => []
  | b + 1, h => bins b (by omega) ++ binAll ⟨b, h⟩

/-- The reference's operations. -/
def line : List (HloOp τ sig (Elt F)) :=
  opening ++ (bins 10 le_rfl ++ (scaling ++ (labels ++ (logSoftmax ++ (picking ++ mean)))))

set_option maxRecDepth 16384 in
set_option maxHeartbeats 4000000 in
/-- The program runs that line. -/
theorem main_eq (c : Dev nD) : main (F := F) c = seq line := by
  sl_kernel_rfl

end Cert.ReferenceIdeal.Value
-- ==== Proof.Read.lean ====
/- What the reference's line leaves in its buffers: every stretch of it as a function of the values before. -/
module

public import proofs.«01_k».proof.Proof.Lines

@[expose] public section

set_option Elab.async false

noncomputable section

namespace Cert.ReferenceIdeal.Value

open Cert.ReferenceIdeal Cert.ReferenceIdeal.Gen Idealize.ShloMosaic Idealize.ShloMosaic.TcCoe Idealize.SL.Sem
open Idealize.ShloMosaic.StableHlo

variable {F : FTy → Type} [FloatOps F]

/-! ## Reading a buffer -/

/-- The value a valuation holds in a buffer. -/
def rd {T : BufTy} (V : Valuation τ sig (Elt F)) (x : TRef sig T) : T.Contents (Elt F) :=
  x.ofBuf (V (Proc.devRef .tc x.ref))

section
variable {T Ta Tb Tc Te Ty : BufTy} (V : Valuation τ sig (Elt F)) (r : TRef sig T)
  (a : TRef sig Ta) (b : TRef sig Tb) (c : TRef sig Tc) (e : TRef sig Te) (y : TRef sig Ty)

/-- A constant operation leaves its function of the operands in its result. -/
theorem rd_nullary (v : Ty.Contents (Elt F)) : rd ((TRef.nullary y v).result V) y = v := by
  unfold rd; rw [nullary_result]; simp
/-- A one-operand operation leaves its function of the operands in its result. -/
theorem rd_unary (f : Ta.Contents (Elt F) → Ty.Contents (Elt F)) :
    rd ((TRef.unary a y f).result V) y = f (rd V a) := by
  unfold rd; rw [unary_result]; simp
/-- A two-operand operation leaves its function of the operands in its result. -/
theorem rd_binary (f : Ta.Contents (Elt F) → Tb.Contents (Elt F) → Ty.Contents (Elt F)) :
    rd ((TRef.binary a b y f).result V) y = f (rd V a) (rd V b) := by
  unfold rd; rw [binary_result]; simp
/-- A three-operand operation leaves its function of the operands in its result. -/
theorem rd_ternary (f : Ta.Contents (Elt F) → Tb.Contents (Elt F) → Tc.Contents (Elt F) → Ty.Contents (Elt F)) :
    rd ((TRef.ternary a b c y f).result V) y = f (rd V a) (rd V b) (rd V c) := by
  unfold rd; rw [ternary_result]; simp
/-- A four-operand operation leaves its function of the operands in its result. -/
theorem rd_quaternary
    (f : Ta.Contents (Elt F) → Tb.Contents (Elt F) → Tc.Contents (Elt F) → Te.Contents (Elt F) → Ty.Contents (Elt F)) :
    rd ((TRef.quaternary a b c e y f).result V) y = f (rd V a) (rd V b) (rd V c) (rd V e) := by
  unfold rd; rw [quaternary_result]; simp
/-- A reshape leaves its operand, recast, in its result. -/
theorem rd_reshape (he : Ta.elt = Ty.elt) (hn : Ta.shape.ShapeCasts Ty.shape) :
    rd ((recast (F := F) a y he hn).result V) y = fun i => he ▸ shapeCast Ty.shape (rd V a) hn i := by
  unfold rd recast
  rw [reshape_result]
  obtain ⟨ar, rfl, _, _⟩ := a
  obtain ⟨yr, rfl, _, _⟩ := y
  rfl

/-- A constant operation leaves every other buffer as it was. -/
theorem rd_nullary_ne (v : Ty.Contents (Elt F)) (h : r.ref ≠ y.ref) : rd ((TRef.nullary y v).result V) r = rd V r := by
  unfold rd; rw [nullary_result_ne]; exact h
/-- A one-operand operation leaves every other buffer as it was. -/
theorem rd_unary_ne (f : Ta.Contents (Elt F) → Ty.Contents (Elt F)) (h : r.ref ≠ y.ref) :
    rd ((TRef.unary a y f).result V) r = rd V r := by
  unfold rd; rw [unary_result_ne]; exact h
/-- A two-operand operation leaves every other buffer as it was. -/
theorem rd_binary_ne (f : Ta.Contents (Elt F) → Tb.Contents (Elt F) → Ty.Contents (Elt F)) (h : r.ref ≠ y.ref) :
    rd ((TRef.binary a b y f).result V) r = rd V r := by
  unfold rd; rw [binary_result_ne]; exact h
/-- A three-operand operation leaves every other buffer as it was. -/
theorem rd_ternary_ne (f : Ta.Contents (Elt F) → Tb.Contents (Elt F) → Tc.Contents (Elt F) → Ty.Contents (Elt F))
    (h : r.ref ≠ y.ref) : rd ((TRef.ternary a b c y f).result V) r = rd V r := by
  unfold rd; rw [ternary_result_ne]; exact h
/-- A four-operand operation leaves every other buffer as it was. -/
theorem rd_quaternary_ne
    (f : Ta.Contents (Elt F) → Tb.Contents (Elt F) → Tc.Contents (Elt F) → Te.Contents (Elt F) → Ty.Contents (Elt F))
    (h : r.ref ≠ y.ref) : rd ((TRef.quaternary a b c e y f).result V) r = rd V r := by
  unfold rd; rw [quaternary_result_ne]; exact h
/-- A reshape leaves every other buffer as it was. -/
theorem rd_reshape_ne (he : Ta.elt = Ty.elt) (hn : Ta.shape.ShapeCasts Ty.shape) (h : r.ref ≠ y.ref) :
    rd ((recast (F := F) a y he hn).result V) r = rd V r := by
  unfold rd recast; rw [reshape_result_ne]; exact h
end

/-! ## The values -/

/-- A sample vector. -/
abbrev Vf (F : FTy → Type) := Vec F S8388608 .f32
/-- A scalar. -/
abbrev Sf (F : FTy → Type) := Vec F S_ .f32
/-- Two columns. -/
abbrev Mf (F : FTy → Type) := Vec F S8388608x2 .f32

/-- A scalar constant. -/
abbrev cst (w : BitVec 32) : Sf F := constant S_ .f32 w
/-- A scalar repeated for every sample. -/
abbrev rep (v : Sf F) : Vf F := broadcastInDim S8388608 ![] bcast_S_S8388608 v
/-- A sample vector as both columns. -/
abbrev both (v : Vf F) : Mf F :=
  broadcastInDim S8388608x2 ![0, 1] bcast_S8388608x1_S8388608x2_0_1 (broadcastInDim S8388608x1 ![0] bcast_S8388608_S8388608x1_0 v)

/-- The logits less the larger of the two. -/
def shifted (x : Mf F) : Mf F :=
  subf x (both (maximumf (rep (cst 0xFF800000#32))
    (Host.reduce FloatOps.maximumf x (cst 0xFF800000#32) reducesTo_S8388608x2_S8388608_d1 h_S_)))

/-- The sum over the two columns. -/
abbrev rowAdd (x : Mf F) : Vf F := Host.reduceAdd x (cst 0x00000000#32) reducesTo_S8388608x2_S8388608_d1 h_S_

/-- The gradient norm of every sample. -/
def norms (x t : Mf F) : Vf F :=
  rowAdd (mulf (Host.absf (subf (Host.divf (Host.exp (shifted x)) (both (rowAdd (Host.exp (shifted x))))) t)) t)

/-- The samples of bin `b`. -/
def member (g : Vf F) (b : ℕ) : Vec F S8388608 .i1 :=
  andi (cmpf .oge g (rep (cst (edge b)))) (cmpf .olt g (rep (cst (edge (b + 1)))))

/-- How many samples the bin has. -/
def num (g : Vf F) (b : ℕ) : Sf F :=
  sitofp .f32 (Host.reduce IntOp.addi (extui 32 (member g b) natLt_1_32) (constantI S_ 32 0#32) reducesTo_S8388608_S_d0 h_S_)

/-- Whether it has any. -/
def used (g : Vf F) (b : ℕ) : Vec F S_ .i1 := cmpf .ogt (num g b) (cst 0x00000000#32)

/-- The weight of a sample of the bin. -/
def wt (g : Vf F) (b : ℕ) : Sf F :=
  Host.divf (cst 0x4B000000#32)
    (maximumf (addf (cst 0x00000000#32) (mulf (cst 0x3DCCCCCD#32) (num g b))) (cst 0x2B8CBCCC#32))

/-- The weights after the first `b` bins. -/
def weights (g : Vf F) : ℕ → Vf F
  | 0 => rep (cst 0x00000000#32)
  | b + 1 => select (andi (member g b) (broadcastInDim S8388608 ![] bcast_S_S8388608 (used g b))) (rep (wt g b)) (weights g b)

/-- The number of the first `b` bins in use. -/
def count (g : Vf F) : ℕ → Sf F
  | 0 => cst 0x00000000#32
  | b + 1 => addf (count g b) (uitofp .f32 (used g b))

/-- The weights over the number of bins in use. -/
def scaled (w : Vf F) (n : Sf F) : Vf F :=
  select (broadcastInDim S8388608 ![] bcast_S_S8388608 (cmpf .ogt n (cst 0x00000000#32)))
    (Host.divf w (rep (maximumf n (cst 0x3F800000#32)))) w

/-- The column of the larger target. -/
def label (t : Mf F) : Vec F S8388608 .i32 := fun j =>
  (Host.argReduce reducer_argmax_f32_i32 t (iotaInDim S8388608x2 32 1) (cst 0xFF800000#32) (constantI S_ 32 0#32)
    reducesTo_S8388608x2_S8388608_d1 h_S_ j).2

/-- The logarithm of the softmax. -/
def logs (x : Mf F) : Mf F :=
  subf (shifted x) (broadcastInDim S8388608x2 ![0, 1] bcast_S8388608x1_S8388608x2_0_1
    (Host.log (broadcastInDim S8388608x1 ![0] bcast_S8388608_S8388608x1_0 (rowAdd (Host.exp (shifted x))))))

/-- The labels as the gather takes them: a negative one counts from the end. -/
def starts (l : Vec F S8388608 .i32) : Vec F S8388608x1x1 .i32 :=
  shapeCast S8388608x1x1
    (select (cmpi .slt (broadcastInDim S8388608x1 ![0] bcast_S8388608_S8388608x1_0 l)
        (broadcastInDim S8388608x1 ![] bcast_S_S8388608x1 (constantI S_ 32 0#32)))
      (addi (broadcastInDim S8388608x1 ![0] bcast_S8388608_S8388608x1_0 l)
        (broadcastInDim S8388608x1 ![] bcast_S_S8388608x1 (constantI S_ 32 2#32)))
      (broadcastInDim S8388608x1 ![0] bcast_S8388608_S8388608x1_0 l)) shapeCasts_S8388608x1_S8388608x1x1

/-- Which of them lie within the columns. -/
def inside (s : Vec F S8388608x1x1 .i32) : Vec F S8388608x1 .i1 :=
  Host.reduce IntOp.andi
    (andi (cmpi .sge s (broadcastInDim S8388608x1x1 ![] bcast_S_S8388608x1x1 (constantI S_ 32 0#32)))
      (cmpi .sle s (broadcastInDim S8388608x1x1 ![0, 1, 2] bcast_S1x1x1_S8388608x1x1_0_1_2
        (broadcastInDim S1x1x1 ![2] bcast_S1_S1x1x1_2 (constantI S1 32 1#32)))))
    (constantI S_ 1 1#1) reducesTo_S8388608x1x1_S8388608x1_d2 h_S_

/-- The entry of the logarithms in the label's column. -/
def picked (y : Mf F) (l : Vec F S8388608 .i32) : Vec F S8388608x1 .f32 :=
  select (inside (F := F) (starts (F := F) l)) (Host.gather gather_S8388608x2_S8388608x1x1_S8388608x1_n_1_0_0_1_2_11 y (starts (F := F) l))
    (broadcastInDim S8388608x1 ![] bcast_S_S8388608x1 (cst 0x7FC00000#32))

/-- The mean of the weighted cross-entropies. -/
def meanOf (w : Vf F) (p : Vec F S8388608x1 .f32) : Vec F S1x1 .f32 :=
  shapeCast S1x1 (Host.divf
    (Host.reduceAdd (mulf w (Host.negf (shapeCast S8388608 p shapeCasts_S8388608x1_S8388608))) (cst 0x00000000#32)
      reducesTo_S8388608_S_d0 h_S_) (cst 0x4B000000#32)) shapeCasts_S_S1x1

/-- What the reference returns. -/
def loss (x t : Mf F) : Vec F S1x1 .f32 :=
  meanOf (scaled (weights (norms x t) 10) (count (norms x t) 10)) (picked (logs x) (label t))

/-! ## The stretches of the line -/

/-- What the opening leaves: the gradient norms, and weights of 0. -/
theorem after_opening (V : Valuation τ sig (Elt F)) :
    rd (after opening V) (tr 20 TV) = norms (rd V (tr 0 TM)) (rd V (tr 1 TM))
      ∧ rd (after opening V) (tr 22 TV) = weights (rd V (tr 20 TV)) 0
      ∧ rd (after opening V) (tr 0 TM) = rd V (tr 0 TM) ∧ rd (after opening V) (tr 1 TM) = rd V (tr 1 TM) := by
  unfold opening
  simp (disch := (refine tr_ne ?_; omega)) only [after_cons, after_nil, rd_nullary, rd_unary, rd_binary,
    rd_nullary_ne, rd_unary_ne, rd_binary_ne]
  exact ⟨rfl, rfl, trivial, trivial⟩

/-- A bin's buffers come after those of the opening. -/
theorem le_base (b : Fin 10) : 23 ≤ base b := by unfold base; split <;> omega

/-- The buffer that holds the count before a bin is not one of that bin's line. -/
theorem nAt_ne (b : Fin 10) {k : ℕ} {T : BufTy} {hk ht} (h : base b ≤ k ∧ k < base b + 28) :
    (tr k T hk ht).ref ≠ (nAt b.castSucc).ref :=
  tr_ne (by revert h; unfold base; simp only [Fin.val_castSucc]; split_ifs <;> omega)

/-- The new count has a buffer of its own. -/
theorem nAt_succ_ne (b : Fin 10) {k : ℕ} {T : BufTy} {hk ht} (h : k < base b + 28) :
    (tr k T hk ht).ref ≠ (nAt b.succ).ref :=
  tr_ne (by revert h; unfold base; simp only [Fin.val_succ]; split_ifs <;> omega)

/-- The buffer that holds the weights before a bin is not one of that bin's line. -/
theorem wAt_ne (b : Fin 10) {k : ℕ} {T : BufTy} {hk ht} (h : base b ≤ k ∧ k < base b + 28) :
    (wAt b.castSucc).ref ≠ (tr k T hk ht).ref :=
  tr_ne (by revert h; unfold base; simp only [Fin.val_castSucc]; split_ifs <;> omega)

/-- The weights a bin leaves are read by the next. -/
theorem wAt_succ (b : Fin 10) : wAt b.succ = bt b 24 TV := by
  have h : ∀ {k k' : ℕ} {hk hk' ht ht'}, k = k' → tr k TV hk ht = tr k' TV hk' ht' := by
    intro k k' hk hk' ht ht' e; subst e; rfl
  exact h (by simp only [Fin.val_succ]; simp)

/-- What a bin's line leaves. -/
theorem after_binLine (V : Valuation τ sig (Elt F)) (b : Fin 10) :
    rd (after (binLine b (tr 20 TV) (wAt b.castSucc)) V) (bt b 24 TV)
        = select (andi (member (rd V (tr 20 TV)) b) (broadcastInDim S8388608 ![] bcast_S_S8388608 (used (rd V (tr 20 TV)) b)))
            (rep (wt (rd V (tr 20 TV)) b)) (rd V (wAt b.castSucc))
      ∧ rd (after (binLine b (tr 20 TV) (wAt b.castSucc)) V) (bt b 27 TS) = uitofp .f32 (used (rd V (tr 20 TV)) b)
      ∧ rd (after (binLine b (tr 20 TV) (wAt b.castSucc)) V) (nAt b.castSucc) = rd V (nAt b.castSucc)
      ∧ rd (after (binLine b (tr 20 TV) (wAt b.castSucc)) V) (tr 20 TV) = rd V (tr 20 TV)
      ∧ rd (after (binLine b (tr 20 TV) (wAt b.castSucc)) V) (tr 0 TM) = rd V (tr 0 TM)
      ∧ rd (after (binLine b (tr 20 TV) (wAt b.castSucc)) V) (tr 1 TM) = rd V (tr 1 TM) := by
  unfold binLine
  have hb := le_base b
  simp only [after_cons, after_nil]
  refine ⟨?_, ?_, ?_, ?_, ?_, ?_⟩
  · simp (disch := first | (refine tr_ne ?_; omega) | (refine wAt_ne _ ?_; omega)) only [rd_nullary, rd_unary,
      rd_binary, rd_ternary, rd_nullary_ne, rd_unary_ne, rd_binary_ne, rd_ternary_ne]
    rfl
  · simp (disch := (refine tr_ne ?_; omega)) only [rd_nullary, rd_unary,
      rd_binary, rd_nullary_ne, rd_unary_ne, rd_binary_ne, rd_ternary_ne]
    rfl
  · simp (disch := (refine (nAt_ne _ ?_).symm; omega)) only [rd_nullary_ne, rd_unary_ne, rd_binary_ne, rd_ternary_ne]
  · simp (disch := (refine tr_ne ?_; omega)) only [rd_nullary_ne, rd_unary_ne, rd_binary_ne, rd_ternary_ne]
  · simp (disch := (refine tr_ne ?_; omega)) only [rd_nullary_ne, rd_unary_ne, rd_binary_ne, rd_ternary_ne]
  · simp (disch := (refine tr_ne ?_; omega)) only [rd_nullary_ne, rd_unary_ne, rd_binary_ne, rd_ternary_ne]

/-- What the sum after it leaves. -/
theorem after_binAll (V : Valuation τ sig (Elt F)) (b : Fin 10)
    (hn : b.val ≠ 0 → rd V (nAt b.castSucc) = count (rd V (tr 20 TV)) b)
    (hw : rd V (wAt b.castSucc) = weights (rd V (tr 20 TV)) b) :
    rd (after (binAll b) V) (wAt b.succ) = weights (rd V (tr 20 TV)) (b + 1)
      ∧ rd (after (binAll b) V) (nAt b.succ) = count (rd V (tr 20 TV)) (b + 1)
      ∧ rd (after (binAll b) V) (tr 20 TV) = rd V (tr 20 TV)
      ∧ rd (after (binAll b) V) (tr 0 TM) = rd V (tr 0 TM)
      ∧ rd (after (binAll b) V) (tr 1 TM) = rd V (tr 1 TM) := by
  obtain ⟨h1, h2, h3, h4, h5, h6⟩ := after_binLine V b
  unfold binAll
  simp only [after_append]
  set V' := after (binLine b (tr 20 TV) (wAt b.castSucc)) V
  have hsn : ∀ {k : ℕ} {T : BufTy} {hk ht}, k < 23 → (tr k T hk ht).ref ≠ (nAt b.succ).ref := fun h =>
    tr_ne (by simp only [Fin.val_succ]; split_ifs <;> omega)
  have hsc : ∀ {k : ℕ} {T : BufTy} {hk ht}, k < 23 → (tr k T hk ht).ref ≠ (nAt b.castSucc).ref := fun h =>
    tr_ne (by simp only [Fin.val_castSucc]; split_ifs <;> omega)
  rw [wAt_succ]
  by_cases h0 : b.val = 0
  · rw [if_pos h0]
    simp (disch := first | (refine hsn ?_; omega) | (refine hsc ?_; omega) | (refine nAt_succ_ne _ ?_; omega) | (refine nAt_ne _ ?_; omega)) only
      [after_cons, after_nil, rd_nullary, rd_binary, rd_nullary_ne, rd_binary_ne]
    refine ⟨h1.trans ?_, ?_, h4, h5, h6⟩
    · rw [hw]; rfl
    · rw [h2, count, h0]; rfl
  · rw [if_neg h0]
    simp (disch := first | (refine hsn ?_; omega) | (refine nAt_succ_ne _ ?_; omega)) only
      [after_cons, after_nil, rd_nullary, rd_binary, rd_nullary_ne, rd_binary_ne]
    refine ⟨h1.trans ?_, ?_, h4, h5, h6⟩
    · rw [hw]; rfl
    · rw [h2, h3, hn h0]; rfl

/-- What the bins leave. -/
theorem after_bins (V : Valuation τ sig (Elt F)) (hw : rd V (tr 22 TV) = weights (rd V (tr 20 TV)) 0) :
    ∀ (b : ℕ) (hb : b ≤ 10),
      rd (after (bins b hb) V) (wAt ⟨b, by omega⟩) = weights (rd V (tr 20 TV)) b
      ∧ (b ≠ 0 → rd (after (bins b hb) V) (nAt ⟨b, by omega⟩) = count (rd V (tr 20 TV)) b)
      ∧ rd (after (bins b hb) V) (tr 20 TV) = rd V (tr 20 TV)
      ∧ rd (after (bins b hb) V) (tr 0 TM) = rd V (tr 0 TM)
      ∧ rd (after (bins b hb) V) (tr 1 TM) = rd V (tr 1 TM)
  | 0, _ => ⟨hw, fun h => absurd rfl h, rfl, rfl, rfl⟩
  | b + 1, hb => by
    obtain ⟨h1, h2, h3, h4, h5⟩ := after_bins V hw b (by omega)
    obtain ⟨k1, k2, k3, k4, k5⟩ := after_binAll (after (bins b (by omega)) V) ⟨b, hb⟩
      (fun h => by rw [h3]; exact h2 h) (by rw [h3]; exact h1)
    rw [h3] at k1 k2
    simp only [bins, after_append]
    exact ⟨k1, fun _ => k2, k3.trans h3, k4.trans h4, k5.trans h5⟩

/-- What the scaling leaves. -/
theorem after_scaling (V : Valuation τ sig (Elt F)) :
    rd (after scaling V) (tr 320 TV) = scaled (rd V (tr 309 TV)) (rd V (tr 313 TS))
    ∧ rd (after scaling V) (tr 0 TM) = rd V (tr 0 TM) ∧ rd (after scaling V) (tr 1 TM) = rd V (tr 1 TM) := by
  unfold scaling
  simp (disch := (refine tr_ne ?_; omega)) only [after_cons, after_nil, rd_nullary, rd_unary, rd_binary, rd_ternary,
    rd_nullary_ne, rd_unary_ne, rd_binary_ne, rd_ternary_ne]
  exact ⟨rfl, trivial, trivial⟩

/-- What the search for the larger target leaves. -/
theorem after_labels (V : Valuation τ sig (Elt F)) :
    rd (after labels V) (tr 325 ⟨S8388608, .i32⟩) = label (rd V (tr 1 TM))
    ∧ rd (after labels V) (tr 320 TV) = rd V (tr 320 TV)
    ∧ rd (after labels V) (tr 0 TM) = rd V (tr 0 TM) ∧ rd (after labels V) (tr 1 TM) = rd V (tr 1 TM) := by
  unfold labels
  simp (disch := (refine tr_ne ?_; omega)) only [after_cons, after_nil, rd_nullary, rd_quaternary,
    rd_nullary_ne, rd_quaternary_ne]
  exact ⟨rfl, trivial, trivial, trivial⟩

/-- What the logarithms leaves. -/
theorem after_logSoftmax (V : Valuation τ sig (Elt F)) :
    rd (after logSoftmax V) (tr 340 TM) = logs (rd V (tr 0 TM))
    ∧ rd (after logSoftmax V) (tr 325 ⟨S8388608, .i32⟩) = rd V (tr 325 ⟨S8388608, .i32⟩)
    ∧ rd (after logSoftmax V) (tr 320 TV) = rd V (tr 320 TV)
    ∧ rd (after logSoftmax V) (tr 0 TM) = rd V (tr 0 TM) ∧ rd (after logSoftmax V) (tr 1 TM) = rd V (tr 1 TM) := by
  unfold logSoftmax
  simp (disch := (refine tr_ne ?_; omega)) only [after_cons, after_nil, rd_nullary, rd_unary, rd_binary,
    rd_nullary_ne, rd_unary_ne, rd_binary_ne]
  exact ⟨rfl, trivial, trivial, trivial, trivial⟩

/-- What the gather leaves. -/
theorem after_picking (V : Valuation τ sig (Elt F)) :
    rd (after picking V) (tr 363 TC) = picked (rd V (tr 340 TM)) (rd V (tr 325 ⟨S8388608, .i32⟩))
    ∧ rd (after picking V) (tr 320 TV) = rd V (tr 320 TV)
    ∧ rd (after picking V) (tr 0 TM) = rd V (tr 0 TM) ∧ rd (after picking V) (tr 1 TM) = rd V (tr 1 TM) := by
  unfold picking
  simp (disch := (refine tr_ne ?_; omega)) only [after_cons, after_nil, rd_nullary, rd_unary, rd_binary, rd_ternary,
    rd_reshape, rd_nullary_ne, rd_unary_ne, rd_binary_ne, rd_ternary_ne, rd_reshape_ne]
  exact ⟨rfl, trivial, trivial, trivial⟩

/-- What the mean leaves. -/
theorem after_mean (V : Valuation τ sig (Elt F)) :
    rd (after mean V) (tr 371 ⟨S1x1, .f32⟩) = meanOf (rd V (tr 320 TV)) (rd V (tr 363 TC))
    ∧ rd (after mean V) (tr 0 TM) = rd V (tr 0 TM) ∧ rd (after mean V) (tr 1 TM) = rd V (tr 1 TM) := by
  unfold mean
  simp (disch := (refine tr_ne ?_; omega)) only [after_cons, after_nil, rd_nullary, rd_unary, rd_binary,
    rd_reshape, rd_nullary_ne, rd_unary_ne, rd_binary_ne, rd_reshape_ne]
  exact ⟨rfl, trivial, trivial⟩

/-- What the closing leaves: the mean, over the weights and the count. -/
theorem after_closing (V : Valuation τ sig (Elt F)) :
    rd (after (scaling ++ (labels ++ (logSoftmax ++ (picking ++ mean)))) V) (tr 371 ⟨S1x1, .f32⟩)
        = meanOf (scaled (rd V (tr 309 TV)) (rd V (tr 313 TS))) (picked (logs (rd V (tr 0 TM))) (label (rd V (tr 1 TM))))
      ∧ rd (after (scaling ++ (labels ++ (logSoftmax ++ (picking ++ mean)))) V) (tr 0 TM) = rd V (tr 0 TM)
      ∧ rd (after (scaling ++ (labels ++ (logSoftmax ++ (picking ++ mean)))) V) (tr 1 TM) = rd V (tr 1 TM) := by
  simp only [after_append, (after_mean _).1, (after_mean _).2.1, (after_mean _).2.2, (after_picking _).1, (after_picking _).2.1, (after_picking _).2.2.1, (after_picking _).2.2.2,
    (after_logSoftmax _).1, (after_logSoftmax _).2.1, (after_logSoftmax _).2.2.1, (after_logSoftmax _).2.2.2.1, (after_logSoftmax _).2.2.2.2,
    (after_labels _).1, (after_labels _).2.1, (after_labels _).2.2.1, (after_labels _).2.2.2, (after_scaling _).1, (after_scaling _).2.1, (after_scaling _).2.2]
  exact ⟨trivial, trivial, trivial⟩

/-- What the whole line leaves. -/
theorem after_line (V : Valuation τ sig (Elt F)) :
    rd (after line V) (tr 371 ⟨S1x1, .f32⟩) = loss (rd V (tr 0 TM)) (rd V (tr 1 TM))
      ∧ rd (after line V) (tr 0 TM) = rd V (tr 0 TM) ∧ rd (after line V) (tr 1 TM) = rd V (tr 1 TM) := by
  obtain ⟨o1, o2, o3, o4⟩ := after_opening V
  have o2' : rd (after opening V) (tr 22 TV) = weights (rd (after opening V) (tr 20 TV)) 0 := o2
  obtain ⟨b1, b2, b3, b4, b5⟩ := after_bins (after opening V) o2' 10 le_rfl
  obtain ⟨c1, c2, c3⟩ := after_closing (after (bins 10 le_rfl) (after opening V))
  have b1' : rd (after (bins 10 le_rfl) (after opening V)) (tr 309 TV) = weights (rd (after opening V) (tr 20 TV)) 10 := b1
  have b2' : rd (after (bins 10 le_rfl) (after opening V)) (tr 313 TS) = count (rd (after opening V) (tr 20 TV)) 10 :=
    b2 (by decide)
  unfold line
  rw [after_append, after_append, c1, c2, c3, b1', b2', b4, b5, o1, o3, o4]
  exact ⟨rfl, rfl, rfl⟩

/-! ## The run -/

/-- The program has no buffer of a scope. -/
theorem scopedRefs_eq : (Finset.univ.filter fun b : Ref sig .tc => b.isScoped) = ∅ := by decide
/-- The program has no semaphore of a scope. -/
theorem scopedSems_eq : (Finset.univ.filter fun sm : SemLoc sig => sm.isScoped .tc) = ∅ := by decide

/-- Every operation works on buffers of the device, and determines its results. -/
def Plain (op : HloOp τ sig (Elt F)) : Prop := op.bufs ⊆ tcRefs τ sig ∧ op.fresh = ∅

section
variable {Ta Tb Tc Te Ty : BufTy} (a : TRef sig Ta) (b : TRef sig Tb) (c : TRef sig Tc) (e : TRef sig Te) (y : TRef sig Ty)
/-- A constant operation is plain. -/
theorem plain_nullary (v : Ty.Contents (Elt F)) : Plain (TRef.nullary y v) := ⟨nullary_bufs_sub .., rfl⟩
/-- A one-operand operation is plain. -/
theorem plain_unary (f : Ta.Contents (Elt F) → Ty.Contents (Elt F)) : Plain (TRef.unary a y f) := ⟨unary_bufs_sub .., rfl⟩
/-- A two-operand operation is plain. -/
theorem plain_binary (f : Ta.Contents (Elt F) → Tb.Contents (Elt F) → Ty.Contents (Elt F)) : Plain (TRef.binary a b y f) :=
  ⟨binary_bufs_sub .., rfl⟩
/-- A three-operand operation is plain. -/
theorem plain_ternary (f : Ta.Contents (Elt F) → Tb.Contents (Elt F) → Tc.Contents (Elt F) → Ty.Contents (Elt F)) :
    Plain (TRef.ternary a b c y f) := ⟨ternary_bufs_sub .., rfl⟩
/-- A four-operand operation is plain. -/
theorem plain_quaternary
    (f : Ta.Contents (Elt F) → Tb.Contents (Elt F) → Tc.Contents (Elt F) → Te.Contents (Elt F) → Ty.Contents (Elt F)) :
    Plain (TRef.quaternary a b c e y f) := ⟨quaternary_bufs_sub .., rfl⟩
/-- A reshape is plain. -/
theorem plain_reshape (he : Ta.elt = Ty.elt) (hn : Ta.shape.ShapeCasts Ty.shape) :
    Plain (recast (F := F) a y he hn) := ⟨reshape_bufs_sub _ _ _ _ (hx := a.dev) (hy := y.dev), rfl⟩
end

/-- Every operation of a bin is plain. -/
theorem plain_binAll (b : Fin 10) : ∀ op ∈ (binAll b : List (HloOp τ sig (Elt F))), Plain op := by
  unfold binAll binLine
  split <;>
  simp only [List.cons_append, List.nil_append, List.forall_mem_cons, List.not_mem_nil, false_imp_iff, implies_true, plain_nullary, plain_unary,
    plain_binary, plain_ternary, and_self]

/-- Every operation of the first `b` bins is plain. -/
theorem plain_bins : ∀ (b : ℕ) (hb : b ≤ 10), ∀ op ∈ (bins b hb : List (HloOp τ sig (Elt F))), Plain op
  | 0, _, _, h => by simp [bins] at h
  | b + 1, hb, op, h => by
    rcases List.mem_append.mp h with h | h
    · exact plain_bins b (by omega) op h
    · exact plain_binAll _ op h

/-- Every operation of the program is plain. -/
theorem plain_line : ∀ op ∈ (line : List (HloOp τ sig (Elt F))), Plain op := by
  unfold line opening scaling labels logSoftmax picking mean
  simp only [List.forall_mem_append, List.forall_mem_cons, List.not_mem_nil, false_imp_iff, implies_true, plain_nullary,
    plain_unary, plain_binary, plain_ternary, plain_quaternary, plain_reshape, and_self, true_and, and_true]
  exact plain_bins 10 le_rfl

/-- The buffer of the result, read by its name. -/
theorem rd_out (V : Valuation τ sig (Elt F)) : rd V (tr 371 ⟨S1x1, .f32⟩) = V (Proc.devRef .tc main_v220) := rfl
/-- The buffer of the logits. -/
theorem rd_arg0 (V : Valuation τ sig (Elt F)) : rd V (tr 0 TM) = V (Proc.devRef .tc main_arg0) := rfl
/-- The buffer of the targets. -/
theorem rd_arg1 (V : Valuation τ sig (Elt F)) : rd V (tr 1 TM) = V (Proc.devRef .tc main_arg1) := rfl

/-- Every execution of the reference ends with the loss of its arguments as its result, and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v220)
        = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have k := after_line (launchContents m c)
      ⟨((h c main_v220).trans (rd_out _).symm).trans k.1, ((h c main_arg0).trans (rd_arg0 _).symm).trans k.2.1,
        ((h c main_arg1).trans (rd_arg1 _).symm).trans k.2.2⟩)
    (run_seq scopedRefs_eq scopedSems_eq defs main (fun _ => line) main_eq
      (fun _ => List.forall_iff_forall_mem.mpr fun op h => (plain_line op h).1) m ρ fun _ op h => (plain_line op h).2)

end Cert.ReferenceIdeal.Value
-- ==== Proof.Body.lean ====
/-
  What the kernel's body computes, in any float format: the definitions a grid point's stores and loads are read as. A
  grid point takes a block of 512 rows of 128 samples as 64 chunks of 8 rows. `carry` is the sum over the chunks of one
  packed word per sample: for a sample whose gradient norm reaches the edge, its cross entropy plus 8192.
-/
module

public import proofs.«01_k».proof.Proof.Gen.KernelIdeal.Value
public import Idealize.ShloMosaic.Lib.Pipeline.ValueKit
public import Idealize.ShloMosaic.Lib.Pipeline.ReadBack
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-! ## One chunk -/

/-- One word at every element of a chunk. -/
abbrev fill (w : BitVec 32) : FVec F S8x128 .f32 := broadcast S8x128 (Scalar.ofBits .f32 w)

/-- `1 + exp (-|d|)`. -/
abbrev expSum (d : FVec F S8x128 .f32) : FVec F S8x128 .f32 :=
  addf (fill 0x3F800000#32) (exp (subf (fill 0x00000000#32) (absf d)))

/-- The probability of class 0, from the difference of the logits. -/
abbrev prob0 (d : FVec F S8x128 .f32) : FVec F S8x128 .f32 :=
  select (cmpf .oge d (fill 0x00000000#32)) (divf (fill 0x3F800000#32) (expSum d))
    (subf (fill 0x3F800000#32) (divf (fill 0x3F800000#32) (expSum d)))

/-- The gradient norm of a chunk's samples. -/
def gnorm (x0 x1 t0 t1 : FVec F S8x128 .f32) : FVec F S8x128 .f32 :=
  addf (mulf (absf (subf (prob0 (subf x0 x1)) t0)) t0)
    (mulf (absf (subf (subf (fill 0x3F800000#32) (prob0 (subf x0 x1))) t1)) t1)

/-- The cross entropy of a chunk's samples. -/
def xent (x0 x1 t0 t1 : FVec F S8x128 .f32) : FVec F S8x128 .f32 :=
  addf (maximumf (select (cmpf .oge t0 t1) (subf (fill 0x00000000#32) (subf x0 x1)) (subf x0 x1)) (fill 0x00000000#32))
    (log (expSum (subf x0 x1)))

/-- The ten upper edges of the bins, as f32 words. -/
def edgeW : Fin 10 → BitVec 32 :=
  ![0x3DCCCCCD#32, 0x3E4CCCCD#32, 0x3E99999A#32, 0x3ECCCCCD#32, 0x3F000000#32, 0x3F19999A#32, 0x3F333333#32,
    0x3F4CCCCD#32, 0x3F666666#32, 0x3F800008#32]

/-! ## The 64 chunks of a block -/

/-- Chunk `n` of a block lies inside the block. -/
theorem inb_chunk {n : ℕ} (h : n < 64) :
    ∀ a, (![0, 8 * n, 0] : Fin 3 → ℕ) a + (![1, 8, 128] : Fin 3 → ℕ) a ≤ S1x512x128.size a := fun a => by
  match a with
  | ⟨0, _⟩ => show 0 + 1 ≤ 1; omega
  | ⟨1, _⟩ => show 8 * n + 8 ≤ 512; omega
  | ⟨2, _⟩ => show 0 + 128 ≤ 128; omega

/-- Chunk `n` of a block: its rows `8n` to `8n + 7`. -/
def chunk (X : Vec F S1x512x128 .f32) (n : ℕ) (h : n < 64) : FVec F S8x128 .f32 :=
  shapeCast S8x128 (View.ld X (Rect.unit (s := S1x512x128) ![0, 8 * n, 0] ![1, 8, 128] (inb_chunk h))) shapeCasts_S1x8x128_S8x128

/-- The gradient norms of chunk `n`. -/
abbrev gAt (x0 x1 t0 t1 : Vec F S1x512x128 .f32) (n : ℕ) (h : n < 64) : FVec F S8x128 .f32 :=
  gnorm (chunk x0 n h) (chunk x1 n h) (chunk t0 n h) (chunk t1 n h)

/-- The cross entropies of chunk `n`. -/
abbrev ceAt (x0 x1 t0 t1 : Vec F S1x512x128 .f32) (n : ℕ) (h : n < 64) : FVec F S8x128 .f32 :=
  xent (chunk x0 n h) (chunk x1 n h) (chunk t0 n h) (chunk t1 n h)

/-- The packed sum over the first `n` chunks, for the edge `w`. -/
def carry (x0 x1 t0 t1 : Vec F S1x512x128 .f32) (w : BitVec 32) : (n : ℕ) → n ≤ 64 → FVec F S8x128 .f32
  | 0, _ => fill 0x00000000#32
  | n + 1, h => addf (carry x0 x1 t0 t1 w n (Nat.le_of_succ_le h))
      (select (cmpf .oge (gAt x0 x1 t0 t1 n h) (fill w)) (addf (ceAt x0 x1 t0 t1 n h) (fill 0x46000000#32)) (fill 0x00000000#32))

/-- The sum of the cross entropies over the first `n` chunks. -/
def total (x0 x1 t0 t1 : Vec F S1x512x128 .f32) : (n : ℕ) → n ≤ 64 → FVec F S8x128 .f32
  | 0, _ => fill 0x00000000#32
  | n + 1, h => addf (total x0 x1 t0 t1 n (Nat.le_of_succ_le h)) (ceAt x0 x1 t0 t1 n h)

/-- The count a packed word holds. -/
def cntOf (w : FVec F S8x128 .f32) : FVec F S8x128 .f32 := floor (mulf w (fill 0x39000000#32))

/-- The sum a packed word holds. -/
def remOf (w : FVec F S8x128 .f32) : FVec F S8x128 .f32 := subf w (mulf (cntOf w) (fill 0x46000000#32))

/-- What a grid point adds to the row of counts for edge `j`. -/
abbrev incC (x0 x1 t0 t1 : Vec F S1x512x128 .f32) (j : Fin 10) : FVec F S8x128 .f32 :=
  cntOf (carry x0 x1 t0 t1 (edgeW j) 64 le_rfl)

/-- What a grid point adds to the row of sums for edge `j`. -/
abbrev incS (x0 x1 t0 t1 : Vec F S1x512x128 .f32) (j : Fin 10) : FVec F S8x128 .f32 :=
  remOf (carry x0 x1 t0 t1 (edgeW j) 64 le_rfl)

/-- What a grid point adds to row `k` of the scratch: ten rows of counts, the row of totals, ten rows of sums. -/
def inc (x0 x1 t0 t1 : Vec F S1x512x128 .f32) (k : ℕ) : FVec F S8x128 .f32 :=
  if h : k < 10 then incC x0 x1 t0 t1 ⟨k, h⟩
  else if k = 10 then total x0 x1 t0 t1 64 le_rfl
  else if h : k - 11 < 10 then incS x0 x1 t0 t1 ⟨k - 11, h⟩
  else fill 0x00000000#32

/-! ## The 21 updates of the scratch -/

/-- Row `k` of the scratch array lies inside the array. -/
theorem inb_row {k : ℕ} (h : k < 21) :
    ∀ a, (![k, 0, 0] : Fin 3 → ℕ) a + (![1, 8, 128] : Fin 3 → ℕ) a ≤ S21x8x128.size a := fun a => by
  match a with
  | ⟨0, _⟩ => show k + 1 ≤ 21; omega
  | ⟨1, _⟩ => show 0 + 8 ≤ 8; omega
  | ⟨2, _⟩ => show 0 + 128 ≤ 128; omega

/-- Row `k` of the scratch. -/
abbrev rowR (k : ℕ) (h : k < 21) : Rect S21x8x128 := Rect.unit (s := S21x8x128) ![k, 0, 0] ![1, 8, 128] (inb_row h)

/-- A row as it was, plus an increment. -/
def rowPay (v : Vec F S1x8x128 .f32) (w : FVec F S8x128 .f32) : FVec F S1x8x128 .f32 :=
  shapeCast S1x8x128 (addf (shapeCast S8x128 v shapeCasts_S1x8x128_S8x128) w) shapeCasts_S8x128_S1x8x128

/-- The store of row `k`: what a load of the row read, plus the row's increment. -/
abbrev st (rd : (k : ℕ) → k < 21 → Vec F S1x8x128 .f32) (k : ℕ) (h : k < 21) (w : FVec F S8x128 .f32) :
    View.Piece (Elt F) S21x8x128 .f32 := ⟨rowR k h, rowPay (rd k h) w⟩

/-- The order in which the kernel updates the rows, first to last. -/
def order : List (Fin 21) := [0, 11, 1, 12, 2, 13, 3, 14, 4, 15, 5, 16, 6, 17, 7, 18, 8, 19, 9, 20, 10]

/-- The updates of the rows in `l` over earlier stores `L`, each load reading what `rd` makes of the stores before it. -/
def stores (rd : List (View.Piece (Elt F) S21x8x128 .f32) → (k : ℕ) → k < 21 → Vec F S1x8x128 .f32)
    (w : ℕ → FVec F S8x128 .f32) : List (Fin 21) → List (View.Piece (Elt F) S21x8x128 .f32) → List (View.Piece (Elt F) S21x8x128 .f32)
  | [], L => L
  | k :: l, L => stores rd w l (st (rd L) k.val k.isLt (w k.val) :: L)

/-! ## The final value -/

/-- The sum of a row. -/
def rowSum (v : Vec F S1x8x128 .f32) : F .f32 :=
  extractAt ![0, 0, 0] (shapeCast S1x1x1 (multiReduction .add [1, 2] S1 (shapeCast S1x8x128 (shapeCast S8x128 v shapeCasts_S1x8x128_S8x128)
    shapeCasts_S8x128_S1x8x128) 0x00000000#32 reduces_S1x8x128_S1 (.inl rfl) rfl) shapeCasts_S1_S1x1x1) inpos_S1x1x1_p0_0_0

/-- The count of bin `b`. -/
def binCnt (rd : (k : ℕ) → k < 21 → Vec F S1x8x128 .f32) : (b : ℕ) → b < 10 → F .f32
  | 0, h => Scalar.subf (Scalar.ofBits .f32 0x4B000000#32) (rowSum (rd 0 (by omega)))
  | b + 1, h => Scalar.subf (rowSum (rd b (by omega))) (rowSum (rd (b + 1) (by omega)))

/-- The sum of cross entropies of bin `b`. -/
def binSum (rd : (k : ℕ) → k < 21 → Vec F S1x8x128 .f32) (b : ℕ) (h : b < 10) : F .f32 :=
  Scalar.subf (rowSum (rd (10 + b) (by omega))) (rowSum (rd (11 + b) (by omega)))

/-- Whether bin `b` is not empty. -/
def binOn (rd : (k : ℕ) → k < 21 → Vec F S1x8x128 .f32) (b : ℕ) (h : b < 10) : BitVec 1 :=
  Scalar.cmpf .ogt (binCnt rd b h) (Scalar.ofBits .f32 0x00000000#32)

/-- The number of bins not empty, among the first `b`. -/
def bins (rd : (k : ℕ) → k < 21 → Vec F S1x8x128 .f32) : (b : ℕ) → b ≤ 10 → F .f32
  | 0, _ => Scalar.ofBits .f32 0x00000000#32
  | b + 1, h => Scalar.addf (bins rd b (Nat.le_of_succ_le h)) (Scalar.sitofp .f32 (Scalar.extui (binOn rd b h) : BitVec 32))

/-- The weighted sum over the first `b` bins. -/
def weighted (rd : (k : ℕ) → k < 21 → Vec F S1x8x128 .f32) : (b : ℕ) → b ≤ 10 → F .f32
  | 0, _ => Scalar.ofBits .f32 0x00000000#32
  | b + 1, h => Scalar.addf (weighted rd b (Nat.le_of_succ_le h))
      (Scalar.select (binOn rd b h) (Scalar.divf (binSum rd b h)
        (Scalar.mulf (Scalar.ofBits .f32 0x3DCCCCCD#32) (Scalar.maximumf (binCnt rd b h) (Scalar.ofBits .f32 0x3F800000#32))))
        (Scalar.ofBits .f32 0x00000000#32))

/-- The kernel's result, from the rows of the scratch. -/
def final (rd : (k : ℕ) → k < 21 → Vec F S1x8x128 .f32) : F .f32 :=
  Scalar.divf (weighted rd 10 le_rfl) (Scalar.maximumf (bins rd 10 le_rfl) (Scalar.ofBits .f32 0x3F800000#32))

end Cert.KernelIdeal.Value

end
-- ==== Proof.Point.lean ====
/-
  A grid point's stores, read as the definitions of `Body.lean`: what the frame run found, case by case. Each equation is
  decided by unfolding both sides.
-/
module

public import proofs.«01_k».proof.Proof.Body

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Tactic

variable {F : FTy → Type} [FloatOps F]

section
variable (c : Dev nD) (i : grid0.Coords)
  (a1 : Memref sig .tc .vmem S1x512x128 .f32) (h1 : a1.IsWhole) (a2 : Memref sig .tc .vmem S1x512x128 .f32) (h2 : a2.IsWhole)
  (a3 : Memref sig .tc .vmem S1x512x128 .f32) (h3 : a3.IsWhole) (a4 : Memref sig .tc .vmem S1x512x128 .f32) (h4 : a4.IsWhole)
  (a5 : Memref sig .tc .smem S1x1 .f32) (h5 : a5.IsWhole) (a6 : Memref sig .tc .vmem S21x8x128 .f32) (h6 : a6.IsWhole)
  (x0 x1 x2 x3 : Vec F S1x512x128 .f32) (xs0 : Vec F S21x8x128 .f32)

/-- A later point's stores: each row as the point before left it, plus its increment. -/
theorem pieces_B (hc0 : ¬cond0_0 i) (hc1 : ¬cond0_1 i) :
    sout0_B_0 c i a1 h1 a2 h2 a3 h3 a4 h4 a5 h5 a6 h6 hc0 hc1 x0 x1 x2 x3 xs0
      = VS0_0.read (Elt F) (VS0_0.writes (Elt F) VS0_0.junk
          (stores (fun _ k h => View.ld (a6.view.read (Elt F) (h6.unread xs0)) (rowR k h))
            (inc (a1.view.read (Elt F) (h1.unread x0)) (a2.view.read (Elt F) (h2.unread x1))
              (a3.view.read (Elt F) (h3.unread x2)) (a4.view.read (Elt F) (h4.unread x3))) order [])) := by
  sl_kernel_rfl

/-- The last point's stores: the same. -/
theorem pieces_C (hc0 : ¬cond0_0 i) (hc1 : cond0_1 i) :
    sout0_C_0 c i a1 h1 a2 h2 a3 h3 a4 h4 a5 h5 a6 h6 hc0 hc1 x0 x1 x2 x3 xs0
      = VS0_0.read (Elt F) (VS0_0.writes (Elt F) VS0_0.junk
          (stores (fun _ k h => View.ld (a6.view.read (Elt F) (h6.unread xs0)) (rowR k h))
            (inc (a1.view.read (Elt F) (h1.unread x0)) (a2.view.read (Elt F) (h2.unread x1))
              (a3.view.read (Elt F) (h3.unread x2)) (a4.view.read (Elt F) (h4.unread x3))) order [])) := by
  sl_kernel_rfl

/-- The first point's stores: the scratch filled with zero, then the same updates, each row read from the stores before. -/
theorem pieces_A (hc0 : cond0_0 i) (hc1 : ¬cond0_1 i) :
    sout0_A_0 c i a1 h1 a2 h2 a3 h3 a4 h4 a5 h5 a6 h6 hc0 hc1 x0 x1 x2 x3
      = VS0_0.read (Elt F) (VS0_0.writes (Elt F) VS0_0.junk
          (stores (fun L k h => a6.view.readCov L (rowR k h).toLoadRect)
            (inc (a1.view.read (Elt F) (h1.unread x0)) (a2.view.read (Elt F) (h2.unread x1))
              (a3.view.read (Elt F) (h3.unread x2)) (a4.view.read (Elt F) (h4.unread x3))) order
            [⟨Rect.unit (s := S21x8x128) ![0, 0, 0] S21x8x128.size inb_S21x8x128_S21x8x128_0_0_0, k0_pay50⟩])) := by
  sl_kernel_rfl

/-- The last point's result: the final value of the rows its stores leave. -/
theorem result_C (hc0 : ¬cond0_0 i) (hc1 : cond0_1 i) :
    out0_C_4 c i a1 h1 a2 h2 a3 h3 a4 h4 a5 h5 a6 h6 hc0 hc1 x0 x1 x2 x3 xs0
      = VO0_4.read (Elt F) (VO0_4.writes (Elt F) VO0_4.junk
          [⟨Rect.unit (s := S1x1) ![0, 0] S1x1.size inb_S1x1_S1x1_0_0, fun _ => final (fun k h => a6.view.readCov
            (stores (fun _ k h => View.ld (a6.view.read (Elt F) (h6.unread xs0)) (rowR k h))
              (inc (a1.view.read (Elt F) (h1.unread x0)) (a2.view.read (Elt F) (h2.unread x1))
                (a3.view.read (Elt F) (h3.unread x2)) (a4.view.read (Elt F) (h4.unread x3))) order [])
            (rowR k h).toLoadRect)⟩]) := by
  sl_kernel_rfl

end

end Cert.KernelIdeal.Value

end
-- ==== Proof.Rows.lean ====
/-
  The scratch and the result after a grid point, in any float format: each row of the scratch is what it was plus the
  point's increment; at the first point what it was is zero; at the last point the result is the final value of the rows.
-/
module

public import proofs.«01_k».proof.Proof.Point
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-! ## What the 21 updates leave -/

/-- An index of row `k` lies in the rectangle of row `k`. -/
theorem rowR_emb (k : Fin 21) (r : Fin 8) (l : Fin 128) :
    (rowR k.val k.isLt).emb (ix3 (0 : Fin 1) r l) = (ix3 k r l : S21x8x128.Idx) := by
  funext a
  apply Fin.ext
  rw [Rect.emb_apply]
  match a with
  | ⟨0, _⟩ => show k.val + 1 * 0 = k.val; omega
  | ⟨1, _⟩ => show 0 + 1 * r.val = r.val; omega
  | ⟨2, _⟩ => show 0 + 1 * l.val = l.val; omega

/-- … and in no other. -/
theorem not_mem_rowR {k k' : Fin 21} (h : k ≠ k') (r : Fin 8) (l : Fin 128) :
    (ix3 k r l : S21x8x128.Idx) ∉ (rowR k'.val k'.isLt).set := by
  rw [Rect.mem_set_unit]
  intro hm
  have h0 := hm ⟨0, by decide⟩
  have h1 : k'.val ≤ k.val ∧ k.val < k'.val + 1 := h0
  exact h (Fin.ext (by omega))

/-- The canon of a store of row `k`, at that row. -/
theorem canon_row (rd : (k : ℕ) → k < 21 → Vec F S1x8x128 .f32) (k : Fin 21) (w : FVec F S8x128 .f32)
    (L : List (View.Piece (Elt F) S21x8x128 .f32)) (r : Fin 8) (l : Fin 128) :
    View.canon (st rd k.val k.isLt w :: L) (ix3 k r l : S21x8x128.Idx) = rowPay (rd k.val k.isLt) w (ix3 (0 : Fin 1) r l) := by
  rw [← rowR_emb k r l]
  exact View.canon_cons_emb _ _ L _

/-- The canon of a store of another row is that of the stores before. -/
theorem canon_other (rd : (k : ℕ) → k < 21 → Vec F S1x8x128 .f32) {k k' : Fin 21} (h : k ≠ k') (w : FVec F S8x128 .f32)
    (L : List (View.Piece (Elt F) S21x8x128 .f32)) (r : Fin 8) (l : Fin 128) :
    View.canon (st rd k'.val k'.isLt w :: L) (ix3 k r l : S21x8x128.Idx) = View.canon L (ix3 k r l) :=
  View.canon_cons_of_not_mem _ L (not_mem_rowR h r l)

/-- The updates of the rows in a list without repetition, when a load of a row not yet stored reads `Z`: each row of the
    list is `Z`'s plus its increment, the others are as before. -/
theorem canon_stores (rd : List (View.Piece (Elt F) S21x8x128 .f32) → (k : ℕ) → k < 21 → Vec F S1x8x128 .f32)
    (w : ℕ → FVec F S8x128 .f32) (Z : Fin 21 → Vec F S1x8x128 .f32)
    (hrd : ∀ (L) (k k' : Fin 21) (u : FVec F S8x128 .f32), k ≠ k' → rd L k.val k.isLt = Z k →
      rd (st (rd L) k'.val k'.isLt u :: L) k.val k.isLt = Z k) :
    ∀ (l : List (Fin 21)) (L : List (View.Piece (Elt F) S21x8x128 .f32)), l.Nodup → (∀ k ∈ l, rd L k.val k.isLt = Z k) →
      ∀ (k : Fin 21) (r : Fin 8) (c : Fin 128), View.canon (stores rd w l L) (ix3 k r c : S21x8x128.Idx)
        = if k ∈ l then rowPay (Z k) (w k.val) (ix3 (0 : Fin 1) r c) else View.canon L (ix3 k r c)
  | [], L, _, _, k, r, c => by simp [stores]
  | k' :: l, L, hn, hZ, k, r, c => by
    have hn' := List.nodup_cons.mp hn
    have ih := canon_stores rd w Z hrd l (st (rd L) k'.val k'.isLt (w k'.val) :: L) hn'.2
      (fun k hk => hrd L k k' _ (fun e => hn'.1 (e ▸ hk)) (hZ k (List.mem_cons_of_mem _ hk))) k r c
    show View.canon (stores rd w l (st (rd L) k'.val k'.isLt (w k'.val) :: L)) _ = _
    rw [ih]
    by_cases hk : k = k'
    · subst hk
      rw [if_neg hn'.1, if_pos List.mem_cons_self, canon_row, hZ k List.mem_cons_self]
    · rw [canon_other _ hk]
      simp only [List.mem_cons, hk, false_or]

/-- A step updates no row of the scratch array twice. -/
theorem order_nodup : order.Nodup := by decide

/-- A step updates every row of the scratch array. -/
theorem mem_order (k : Fin 21) : k ∈ order := by revert k; decide

/-- The 21 updates over a load that reads fixed rows. -/
theorem canon_const (rd : (k : ℕ) → k < 21 → Vec F S1x8x128 .f32) (w : ℕ → FVec F S8x128 .f32)
    (L : List (View.Piece (Elt F) S21x8x128 .f32)) (k : Fin 21) (r : Fin 8) (c : Fin 128) :
    View.canon (stores (fun _ => rd) w order L) (ix3 k r c : S21x8x128.Idx)
      = rowPay (rd k.val k.isLt) (w k.val) (ix3 (0 : Fin 1) r c) := by
  rw [canon_stores (fun _ => rd) w (fun k => rd k.val k.isLt) (fun _ _ _ _ _ h => h) order L order_nodup (fun _ _ => rfl),
    if_pos (mem_order k)]

/-- The 21 updates after a fill with `Z`, each load reading the stores before it. -/
theorem canon_fill (a6 : Memref sig .tc .vmem S21x8x128 .f32) (w : ℕ → FVec F S8x128 .f32) (Z : Vec F S21x8x128 .f32)
    (k : Fin 21) (r : Fin 8) (c : Fin 128) :
    View.canon (stores (fun L k h => a6.view.readCov L (rowR k h).toLoadRect) w order
        [⟨Rect.unit (s := S21x8x128) ![0, 0, 0] S21x8x128.size inb_S21x8x128_S21x8x128_0_0_0, Z⟩]) (ix3 k r c : S21x8x128.Idx)
      = rowPay (View.ld Z (rowR k.val k.isLt)) (w k.val) (ix3 (0 : Fin 1) r c) := by
  rw [canon_stores _ w (fun k => View.ld Z (rowR k.val k.isLt)) ?_ order _ order_nodup ?_, if_pos (mem_order k)]
  · intro L k k' u hk h
    rw [← h, View.readCov_eq_canon', View.readCov_eq_canon']
    funext j
    obtain ⟨j0, j1, j2, rfl⟩ : ∃ (j0 : Fin 1) (j1 : Fin 8) (j2 : Fin 128), j = (ix3 j0 j1 j2 : S1x8x128.Idx) := by
      idx_vars j; exact ⟨_, _, _, rfl⟩
    obtain rfl : j0 = 0 := Subsingleton.elim _ _
    have e : (rowR k.val k.isLt).toLoadRect.idx (ix3 (0 : Fin 1) j1 j2) = (ix3 k j1 j2 : S21x8x128.Idx) := rowR_emb k j1 j2
    rw [e, canon_other _ hk]
  · intro k _
    exact View.readCov_fill _ _ _ _ _ (by decide)

/-- A row's payload at an index. -/
theorem rowPay_apply (v : Vec F S1x8x128 .f32) (w : FVec F S8x128 .f32) (r : Fin 8) (c : Fin 128) :
    rowPay v w (ix3 (0 : Fin 1) r c) = FloatOps.addf (v (ix3 (0 : Fin 1) r c)) (w (ix2 r c)) := by
  unfold rowPay
  pointwise

/-- A load of a row at an index. -/
theorem ld_row (X : Vec F S21x8x128 .f32) (k : Fin 21) (r : Fin 8) (c : Fin 128) :
    View.ld X (rowR k.val k.isLt) (ix3 (0 : Fin 1) r c) = X (ix3 k r c) :=
  congrArg X (rowR_emb k r c)

/-! ## Case by case -/

section
variable (c : Dev nD) (i : grid0.Coords)
  (a1 : Memref sig .tc .vmem S1x512x128 .f32) (h1 : a1.IsWhole) (a2 : Memref sig .tc .vmem S1x512x128 .f32) (h2 : a2.IsWhole)
  (a3 : Memref sig .tc .vmem S1x512x128 .f32) (h3 : a3.IsWhole) (a4 : Memref sig .tc .vmem S1x512x128 .f32) (h4 : a4.IsWhole)
  (a5 : Memref sig .tc .smem S1x1 .f32) (h5 : a5.IsWhole) (a6 : Memref sig .tc .vmem S21x8x128 .f32) (h6 : a6.IsWhole)
  (x0 x1 x2 x3 : Vec F S1x512x128 .f32) (xs0 : Vec F S21x8x128 .f32)

/-- A place of the scratch array after the first step: 0, and what the step adds. -/
theorem scratch_A (hc0 : cond0_0 i) (hc1 : ¬cond0_1 i) (k : Fin 21) (r : Fin 8) (l : Fin 128) :
    sout0_A_0 c i a1 h1 a2 h2 a3 h3 a4 h4 a5 h5 a6 h6 hc0 hc1 x0 x1 x2 x3 (ix3 k r l : S21x8x128.Idx)
      = FloatOps.addf (FloatOps.ofBits .f32 0x00000000#32) (inc x0 x1 x2 x3 k.val (ix2 r l)) := by
  rw [pieces_A, View.read_writes_junk_eq_canon, canon_fill, rowPay_apply, ld_row, h1.read_unread, h2.read_unread,
    h3.read_unread, h4.read_unread]
  rfl

/-- A place of the scratch array after a step between: what it held, and what the step adds. -/
theorem scratch_B (hc0 : ¬cond0_0 i) (hc1 : ¬cond0_1 i) (k : Fin 21) (r : Fin 8) (l : Fin 128) :
    sout0_B_0 c i a1 h1 a2 h2 a3 h3 a4 h4 a5 h5 a6 h6 hc0 hc1 x0 x1 x2 x3 xs0 (ix3 k r l : S21x8x128.Idx)
      = FloatOps.addf (xs0 (ix3 k r l)) (inc x0 x1 x2 x3 k.val (ix2 r l)) := by
  rw [pieces_B, View.read_writes_junk_eq_canon, canon_const, rowPay_apply, ld_row, h1.read_unread, h2.read_unread,
    h3.read_unread, h4.read_unread, h6.read_unread]

/-- A place of the scratch array after the last step: what it held, and what the step adds. -/
theorem scratch_C (hc0 : ¬cond0_0 i) (hc1 : cond0_1 i) (k : Fin 21) (r : Fin 8) (l : Fin 128) :
    sout0_C_0 c i a1 h1 a2 h2 a3 h3 a4 h4 a5 h5 a6 h6 hc0 hc1 x0 x1 x2 x3 xs0 (ix3 k r l : S21x8x128.Idx)
      = FloatOps.addf (xs0 (ix3 k r l)) (inc x0 x1 x2 x3 k.val (ix2 r l)) := by
  rw [pieces_C, View.read_writes_junk_eq_canon, canon_const, rowPay_apply, ld_row, h1.read_unread, h2.read_unread,
    h3.read_unread, h4.read_unread, h6.read_unread]

/-- The result is the final value of the rows of the scratch after the point. -/
theorem out_C (hc0 : ¬cond0_0 i) (hc1 : cond0_1 i) :
    out0_C_4 c i a1 h1 a2 h2 a3 h3 a4 h4 a5 h5 a6 h6 hc0 hc1 x0 x1 x2 x3 xs0
      = fun _ => final fun k h => View.ld (sout0_C_0 c i a1 h1 a2 h2 a3 h3 a4 h4 a5 h5 a6 h6 hc0 hc1 x0 x1 x2 x3 xs0) (rowR k h) := by
  rw [result_C, View.read_writes_junk_eq_canon, View.canon_cons_unit_lit _ _ [] (by decide), pieces_C,
    View.read_writes_junk_eq_canon]
  funext _
  congr 1
  funext k h
  rw [View.readCov_eq_canon']

end

end Cert.KernelIdeal.Value

end
-- ==== Proof.Sweep.lean ====
/-
  The scratch over the grid: each entry is the running sum of what the points so far add, and the result array ends holding
  the final value of the scratch after the last point.
-/
module

public import proofs.«01_k».proof.Proof.Rows
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What grid point `t` adds to row `k` of the scratch. -/
def incAt (c : Dev nD) (t : Fin cfg0.N) (k : ℕ) : FVec F S8x128 .f32 :=
  inc (iblk m c 0 t) (iblk m c 1 t) (iblk m c 2 t) (iblk m c 3 t) k

/-- Entry `(k, r, l)` of the scratch after point `n`. -/
def held (c : Dev nD) (k : Fin 21) (r : Fin 8) (l : Fin 128) : (n : ℕ) → n < cfg0.N → F .f32
  | 0, h => FloatOps.addf (FloatOps.ofBits .f32 0x00000000#32) (incAt m c ⟨0, h⟩ k.val (ix2 r l))
  | n + 1, h => FloatOps.addf (held c k r l n (Nat.lt_of_succ_lt h)) (incAt m c ⟨n + 1, h⟩ k.val (ix2 r l))

/-- What a place of the scratch array holds after step `n`. -/
theorem scratch_held (c : Dev nD) (k : Fin 21) (r : Fin 8) (l : Fin 128) :
    ∀ (n : ℕ) (h : n < cfg0.N), (outsAt0 m c n h).2 (ix3 k r l) = held m c k r l n h
  | 0, h => by
    rw [outsAt0_A m c ⟨0, h⟩ rfl (by dsimp only; omega)]
    dsimp only
    exact scratch_A ..
  | n + 1, h => by
    have hN : n + 1 < 128 := lt_of_lt_of_eq h N_0
    have h0 : ¬(⟨n + 1, h⟩ : Fin cfg0.N).val % 128 = 0 := by dsimp only; omega
    by_cases h1 : (⟨n + 1, h⟩ : Fin cfg0.N).val % 128 = 127
    · rw [outsAt0_C m c ⟨n + 1, h⟩ h0 h1]
      dsimp only
      refine (scratch_C ..).trans ?_
      exact congrArg (FloatOps.addf · _) (scratch_held c k r l n _)
    · rw [outsAt0_B m c ⟨n + 1, h⟩ h0 h1]
      dsimp only
      refine (scratch_B ..).trans ?_
      exact congrArg (FloatOps.addf · _) (scratch_held c k r l n _)

/-- The last grid point. -/
def last : Fin cfg0.N := ⟨127, by rw [show cfg0.N = 128 from N_0]; decide⟩

/-- Row `k` of the scratch after the last point. -/
def rows (c : Dev nD) (k : ℕ) (h : k < 21) : Vec F S1x8x128 .f32 :=
  fun i => held m c ⟨k, h⟩ (i 1) (i 2) 127 last.isLt

/-- The contents of the result array after the run. -/
def result (c : Dev nD) : Buf (Elt F) ((c : Thread nD τ).loc main_v4) := fun _ => final (rows m c)

/-- A row loaded from the scratch array after the last step. -/
theorem ld_rows (c : Dev nD) (k : ℕ) (h : k < 21) :
    View.ld (outsAt0 m c 127 last.isLt).2 (rowR k h) = rows m c k h := by
  funext i
  obtain ⟨z, r, l, rfl⟩ : ∃ (z : Fin 1) (r : Fin 8) (l : Fin 128), i = ix3 z r l := ⟨i 0, i 1, i 2, eq_ix3 i⟩
  obtain rfl : z = 0 := Subsingleton.elim _ _
  exact (ld_row _ ⟨k, h⟩ _ _).trans (scratch_held m c ⟨k, h⟩ _ _ 127 _)

/-- What the last step leaves in the result. -/
theorem outs_last (c : Dev nD) : (outsAt0 m c 127 last.isLt).1 = fun _ => final (rows m c) := by
  have h0 : ¬last.val % 128 = 0 := by decide
  have h1 : last.val % 128 = 127 := by decide
  have e := outsAt0_C m c last h0 h1
  have e1 : (outsAt0 m c 127 last.isLt).1 = fun _ => final fun k h => View.ld (outsAt0 m c 127 last.isLt).2 (rowR k h) := by
    refine (congrArg Prod.fst e).trans ?_
    refine Eq.trans ?_ (congrArg (fun X : Vec F S21x8x128 .f32 => fun _ => final fun k h => View.ld X (rowR k h)) (congrArg Prod.snd e).symm)
    dsimp only
    exact out_C ..
  rw [e1]
  funext _
  exact congrArg final (funext fun k => funext fun h => ld_rows m c k h)

/-- The one write-back, at the last point, writes the result. -/
theorem flushed_eq (c : Dev nD) (t : Fin cfg0.N) (hf : (cfg0.win 4).flush t = true) :
    (dats m 0 c).flushed 4 t = ((cfg0.win 4).blk t).view.read (Elt F) (result m c) := by
  have hN : t.val < 128 := lt_of_lt_of_eq t.isLt N_0
  have h3 : t.val = 127 := by have := (flush0_4 t).mp hf; omega
  obtain rfl : t = last := Fin.ext h3
  rw [flushed4, show (outsAt0 m c last.val last.isLt).1 = _ from outs_last m c]
  rfl

/-- The last step writes the whole result. -/
theorem cover_last : ∀ a : Fin 2, win0_4.kind.off (win0_4.index last a) (win0_4.size a) ≤ 0
    ∧ 0 < win0_4.kind.off (win0_4.index last a) (win0_4.size a) + win0_4.xsize (grid0.coords last) a := by decide +kernel

/-- So the result array ends holding it. -/
theorem final_out (c : Dev nD) : (dats m 0 c).arrAt 4 cfg0.N = result m c :=
  (dats m 0 c).arrAt_eq_of_cover 4 (result m c) (flushed_eq m c) fun i =>
    ⟨last, (flush0_4 last).mpr rfl, by
      show i ∈ ((View.whole main_v4).slice (win0_4.rect last)).set
      rw [View.set_slice_whole, Rect.mem_set_unit]
      intro a
      have hi : (i a : Nat) = 0 := by
        have := (i a).isLt
        match a with
        | ⟨0, _⟩ => exact Nat.lt_one_iff.mp this
        | ⟨1, _⟩ => exact Nat.lt_one_iff.mp this
      rw [hi]
      exact cover_last a⟩

/-- The run of the kernel: the result array ends at the result, the arguments unchanged. -/
theorem run_result : θ_run defs (onTc (τ := τ) (main (F := F))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_out m c), (h c).2⟩) (run_blocks m ρ)

end Cert.KernelIdeal.Value

end
-- ==== Proof.Blocks.lean ====
/-
  The chunks of a grid point's blocks, read from the argument arrays: element `(r, l)` of chunk `n` of the block of grid
  point `t` is sample `((64 t + n) * 8 + r) * 128 + l`.
-/
module

public import proofs.«01_k».proof.Proof.Rows
public import Idealize.ShloMosaic.Lib.Claim
public import Idealize.ShloMosaic.Lib.ValueLayout

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Tactic

variable {F : FTy → Type} [FloatOps F]
variable (m : (ℓ : Loc nD τ sig) → Buf (Elt F) ℓ)

/-- The sample at row `r`, lane `l` of chunk `n` of grid point `t`. -/
def sample (t : Fin 128) (n : Fin 64) (r : Fin 8) (l : Fin 128) : Fin 8388608 :=
  ⟨((t.val * 64 + n.val) * 8 + r.val) * 128 + l.val, by have := t.isLt; have := n.isLt; have := r.isLt; have := l.isLt; omega⟩

/-- A chunk of a block at an index. -/
theorem chunk_apply (X : Vec F S1x512x128 .f32) (n : Fin 64) (r : Fin 8) (l : Fin 128) :
    chunk X n.val n.isLt (ix2 r l)
      = X (ix3 (0 : Fin 1) (⟨8 * n.val + r.val, by have := n.isLt; have := r.isLt; omega⟩ : Fin 512) l) := by
  unfold chunk
  refine (ValueIdx.shapeCast_1ab_ab_apply _ _ _ _).trans ?_
  refine View.ld_unit_apply_of _ _ _ _ _ _ fun a => ?_
  match a with
  | ⟨0, _⟩ => rfl
  | ⟨1, _⟩ => rfl
  | ⟨2, _⟩ => show l.val = 0 + l.val; omega

/-- The windows' block indices at a grid point. -/
theorem idx0 : ∀ t : Fin cfg0.N, win0_0.index t = ![0, t.val, 0] ∧ win0_1.index t = ![1, t.val, 0]
    ∧ win0_2.index t = ![0, t.val, 0] ∧ win0_3.index t = ![1, t.val, 0] := by decide +kernel

/-- Window 0 reads the first logits. -/
theorem blk0 (c : Dev nD) (t : Fin cfg0.N) (n : Fin 64) (r : Fin 8) (l : Fin 128) :
    chunk (iblk m c 0 t) n.val n.isLt (ix2 r l)
      = m ((c : Thread nD τ).loc main_arg0) (ix2 (sample (t.cast N_0) n r l) (0 : Fin 2)) := by
  rw [chunk_apply]
  unfold iblk
  entry_read
  rw [View.read_apply]
  pointwise
  blk_ext [sample, (idx0 t).1]

/-- Window 1 reads the second logits. -/
theorem blk1 (c : Dev nD) (t : Fin cfg0.N) (n : Fin 64) (r : Fin 8) (l : Fin 128) :
    chunk (iblk m c 1 t) n.val n.isLt (ix2 r l)
      = m ((c : Thread nD τ).loc main_arg0) (ix2 (sample (t.cast N_0) n r l) (1 : Fin 2)) := by
  rw [chunk_apply]
  unfold iblk
  entry_read
  rw [View.read_apply]
  pointwise
  blk_ext [sample, (idx0 t).2.1]

/-- Window 2 reads the first targets. -/
theorem blk2 (c : Dev nD) (t : Fin cfg0.N) (n : Fin 64) (r : Fin 8) (l : Fin 128) :
    chunk (iblk m c 2 t) n.val n.isLt (ix2 r l)
      = m ((c : Thread nD τ).loc main_arg1) (ix2 (sample (t.cast N_0) n r l) (0 : Fin 2)) := by
  rw [chunk_apply]
  unfold iblk
  entry_read
  rw [View.read_apply]
  pointwise
  blk_ext [sample, (idx0 t).2.2.1]

/-- Window 3 reads the second targets. -/
theorem blk3 (c : Dev nD) (t : Fin cfg0.N) (n : Fin 64) (r : Fin 8) (l : Fin 128) :
    chunk (iblk m c 3 t) n.val n.isLt (ix2 r l)
      = m ((c : Thread nD τ).loc main_arg1) (ix2 (sample (t.cast N_0) n r l) (1 : Fin 2)) := by
  rw [chunk_apply]
  unfold iblk
  entry_read
  rw [View.read_apply]
  pointwise
  blk_ext [sample, (idx0 t).2.2.2]

end Cert.KernelIdeal.Value

end
-- ==== Proof.Model.lean ====
/-
  The mathematics of one sample over the extended reals: the constants of the two programs, the probability of class 0 as
  a function of the difference of the logits, the gradient norm and the cross entropy. The kernel takes them from the
  difference of the logits alone; the reference takes a softmax and a log-softmax with the row's maximum subtracted. Both
  are read here as one function of the difference.
-/
module

public import Idealize.ShloMosaic.PureOps.Ideal
public import Idealize.ShloMosaic.PureOps.Ideal.Laws

@[expose] public section

noncomputable section

namespace Cert.Model

open Idealize.ShloMosaic

/-! ## The constants -/

/-- The word of 0. -/
theorem w_zero : Ideal.ofBits .f32 0x00000000#32 = 0 := by
  simp [Ideal.ofBits, Ideal.ieee, -EReal.coe_mul]

/-- The word of 1. -/
theorem w_one : Ideal.ofBits .f32 0x3F800000#32 = ((1 : ℝ) : EReal) := by
  simp [Ideal.ofBits, Ideal.ieee, -EReal.coe_mul]; norm_num

/-- The word of 8192. -/
theorem w_pack : Ideal.ofBits .f32 0x46000000#32 = ((8192 : ℝ) : EReal) := by
  simp [Ideal.ofBits, Ideal.ieee, -EReal.coe_mul]; norm_num

/-- The word of 1 / 8192. -/
theorem w_unpack : Ideal.ofBits .f32 0x39000000#32 = ((1 / 8192 : ℝ) : EReal) := by
  simp [Ideal.ofBits, Ideal.ieee, -EReal.coe_mul]; norm_num

/-- The word of the number of samples. -/
theorem w_samples : Ideal.ofBits .f32 0x4B000000#32 = ((8388608 : ℝ) : EReal) := by
  simp [Ideal.ofBits, Ideal.ieee, -EReal.coe_mul]

/-- The f32 nearest to one tenth. -/
abbrev tenth : ℝ := 13421773 / 134217728

/-- The word nearest to one tenth. -/
theorem w_tenth : Ideal.ofBits .f32 0x3DCCCCCD#32 = (tenth : EReal) := by
  simp [Ideal.ofBits, Ideal.ieee, -EReal.coe_mul]; norm_num

/-- The least divisor is a real number, and at most a tenth. -/
theorem w_tiny : ∃ e : ℝ, Ideal.ofBits .f32 0x2B8CBCCC#32 = (e : EReal) ∧ e ≤ tenth := by
  refine ⟨9223372 / 9223372036854775808, ?_, ?_⟩
  · simp [Ideal.ofBits, Ideal.ieee, -EReal.coe_mul]; norm_num
  · norm_num

/-- The word of the least value. -/
theorem w_bottom : Ideal.ofBits .f32 0xFF800000#32 = ⊥ := by
  simp [Ideal.ofBits, Ideal.ieee]

/-- The greater of two reals, among the extended reals. -/
theorem max_coe (a b : ℝ) : ((max a b : ℝ) : EReal) = max (a : EReal) (b : EReal) := EReal.coe_strictMono.monotone.map_max

/-- A finite sum of reals, among the extended reals. -/
theorem sum_coe {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-! ## One sample -/

/-- `1 + exp (-|d|)`, by which both programs divide. -/
def den (d : ℝ) : ℝ := 1 + Real.exp (-|d|)

/-- The sum of the two exponentials is positive. -/
theorem den_pos (d : ℝ) : 0 < den d := by unfold den; positivity

/-- It is at least 1. -/
theorem one_le_den (d : ℝ) : 1 ≤ den d := by
  unfold den; linarith [Real.exp_pos (-|d|)]

/-- It is at most 2. -/
theorem den_le (d : ℝ) : den d ≤ 2 := by
  unfold den
  have : Real.exp (-|d|) ≤ 1 := Real.exp_le_one_iff.2 (by simp)
  linarith

/-- The absolute value. -/
def mag (a : EReal) : EReal := max a (-a)

/-- The probability of class 0. -/
def prob (d : ℝ) : ℝ := if 0 ≤ d then 1 / den d else 1 - 1 / den d

/-- The gradient norm. -/
def norm (d : ℝ) (t0 t1 : EReal) : EReal :=
  mag ((prob d : EReal) - t0) * t0 + mag (((1 - prob d : ℝ) : EReal) - t1) * t1

/-- The cross entropy of the class with the greater target, class 0 at a tie. -/
def cross (d : ℝ) (t0 t1 : EReal) : ℝ := max (if t1 ≤ t0 then -d else d) 0 + Real.log (den d)

/-- The cross entropy is not negative. -/
theorem cross_nonneg (d : ℝ) (t0 t1 : EReal) : 0 ≤ cross d t0 t1 :=
  add_nonneg (le_max_right _ _) (Real.log_nonneg (one_le_den d))

/-- It is below 128 when the logits are at most 127 apart. -/
theorem cross_lt (d : ℝ) (t0 t1 : EReal) (h : |d| ≤ 127) : cross d t0 t1 < 128 := by
  have h1 := abs_le.1 h
  have h2 : max (if t1 ≤ t0 then -d else d) 0 ≤ 127 := by
    refine max_le ?_ (by norm_num)
    split <;> linarith
  have h3 : Real.log (den d) < 1 :=
    lt_of_le_of_lt (Real.log_le_log (den_pos d) (den_le d)) (by linarith [Real.log_lt_sub_one_of_pos (by norm_num : (0 : ℝ) < 2) (by norm_num)])
  unfold cross
  linarith

/-- An absolute value is not negative. -/
theorem mag_nonneg (a : EReal) : 0 ≤ mag a := by
  unfold mag
  rcases le_total 0 a with h | h
  · exact le_max_of_le_left h
  · exact le_max_of_le_right (by simpa using EReal.neg_le_neg_iff.2 h)

/-- The gradient norm is not negative when no target is. -/
theorem norm_nonneg (d : ℝ) (t0 t1 : EReal) (h0 : 0 ≤ t0) (h1 : 0 ≤ t1) : 0 ≤ norm d t0 t1 :=
  add_nonneg (mul_nonneg (mag_nonneg _) h0) (mul_nonneg (mag_nonneg _) h1)

/-! ## The softmax of a row of two -/

/-- The exponentials of a row of two, less the row's maximum, sum to `den`. -/
theorem exp_sum (a b : ℝ) : Real.exp (a - max a b) + Real.exp (b - max a b) = den (a - b) := by
  unfold den
  rcases le_total b a with h | h
  · rw [max_eq_left h, abs_of_nonneg (by linarith), sub_self, Real.exp_zero]
    congr 2; ring
  · rw [max_eq_right h, abs_of_nonpos (by linarith), sub_self, Real.exp_zero, add_comm]
    congr 2; ring

/-- The softmax of the first logit. -/
theorem soft0 (a b : ℝ) : Real.exp (a - max a b) / den (a - b) = prob (a - b) := by
  have hp := (den_pos (a - b)).ne'
  have hs := exp_sum a b
  unfold prob
  split
  · rename_i h
    rw [max_eq_left (by linarith), sub_self, Real.exp_zero]
  · rename_i h
    rw [max_eq_right (by linarith)] at hs ⊢
    rw [sub_self, Real.exp_zero] at hs
    field_simp
    linarith

/-- The softmax of the second logit. -/
theorem soft1 (a b : ℝ) : Real.exp (b - max a b) / den (a - b) = 1 - prob (a - b) := by
  rw [← soft0, eq_sub_iff_add_eq, ← add_div, add_comm, exp_sum, div_self (den_pos _).ne']

/-- The logarithm of the softmax in the column of the greater target is the cross entropy, negated. -/
theorem logsoft (a b : ℝ) (t0 t1 : EReal) :
    -((if t1 ≤ t0 then a else b) - max a b - Real.log (den (a - b))) = cross (a - b) t0 t1 := by
  unfold cross
  have : max a b - (if t1 ≤ t0 then a else b) = max (if t1 ≤ t0 then -(a - b) else a - b) 0 := by
    split
    · rcases le_total a b with h | h <;> simp [h]
    · rcases le_total a b with h | h <;> simp [h]
  rw [← this]; ring

end Cert.Model

end
-- ==== Proof.Packing.lean ====
/-
  The packed words. A grid point adds, for each sample whose gradient norm reaches an edge, the sample's cross entropy
  plus 8192 into one word, 64 samples to a word. Each cross entropy lies in `[0, 128)`, so the sum of at most 64 of them
  lies in `[0, 8192)`: the number of samples is the word's quotient by 8192 and the sum its remainder.
-/
module

public import proofs.«01_k».proof.Proof.Model

@[expose] public section

noncomputable section

namespace Cert.Model

open Idealize.ShloMosaic

/-- What a sample adds to a sum restricted to the samples with `p`. -/
def pick (p : Prop) [Decidable p] (c : ℝ) : ℝ := if p then c else 0

/-- A sum of packed words is the sum of the values plus 8192 times the number. -/
theorem pack_sum {ι : Type} (s : Finset ι) (p : ι → Prop) [DecidablePred p] (c : ι → ℝ) :
    (∑ i ∈ s, if p i then c i + 8192 else 0) = (∑ i ∈ s, pick (p i) (c i)) + 8192 * ∑ i ∈ s, pick (p i) 1 := by
  rw [Finset.mul_sum, ← Finset.sum_add_distrib]
  refine Finset.sum_congr rfl fun i _ => ?_
  unfold pick
  split <;> ring

/-- The number is a natural number. -/
theorem count_nat {ι : Type} (s : Finset ι) (p : ι → Prop) [DecidablePred p] :
    (∑ i ∈ s, pick (p i) 1) = ((s.filter p).card : ℝ) := by
  unfold pick
  rw [Finset.sum_boole]

/-- The sum of the values of 64 samples lies in `[0, 8192)`. -/
theorem pick_sum_range {ι : Type} [Fintype ι] (hι : Fintype.card ι = 64) (p : ι → Prop) [DecidablePred p] (c : ι → ℝ)
    (h0 : ∀ i, 0 ≤ c i) (h1 : ∀ i, c i < 128) :
    0 ≤ (∑ i, pick (p i) (c i)) ∧ (∑ i, pick (p i) (c i)) < 8192 := by
  have hne : (Finset.univ : Finset ι).Nonempty := by
    rw [← Finset.card_pos, Finset.card_univ, hι]; norm_num
  constructor
  · refine Finset.sum_nonneg fun i _ => ?_
    unfold pick
    split
    · exact h0 i
    · exact le_rfl
  · have h : (∑ i, pick (p i) (c i)) < ∑ _i : ι, (128 : ℝ) := by
      refine Finset.sum_lt_sum_of_nonempty hne fun i _ => ?_
      unfold pick
      split
      · exact h1 i
      · norm_num
    rw [Finset.sum_const, Finset.card_univ, hι] at h
    norm_num at h
    exact h

/-- The quotient by 8192 of a packed word. -/
theorem floor_pack (s : ℝ) (k : ℕ) (h0 : 0 ≤ s) (h1 : s < 8192) : ⌊(s + 8192 * (k : ℝ)) * (1 / 8192)⌋ = (k : ℤ) := by
  rw [Int.floor_eq_iff]
  constructor
  · push_cast; linarith
  · push_cast; linarith

/-- The quotient, as the program takes it. -/
theorem unpack_count (s : ℝ) (k : ℕ) (h0 : 0 ≤ s) (h1 : s < 8192) :
    Ideal.liftRound Int.floor (((s + 8192 * (k : ℝ) : ℝ) : EReal) * ((1 / 8192 : ℝ) : EReal)) = ((k : ℝ) : EReal) := by
  rw [← EReal.coe_mul, Ideal.liftRound_coe, floor_pack s k h0 h1, Int.cast_natCast]

/-- The remainder, as the program takes it. -/
theorem unpack_sum (s : ℝ) (k : ℕ) :
    ((s + 8192 * (k : ℝ) : ℝ) : EReal) - ((k : ℝ) : EReal) * ((8192 : ℝ) : EReal) = (s : EReal) := by
  rw [← EReal.coe_mul, ← EReal.coe_sub]
  congr 1; ring

end Cert.Model

end
-- ==== Proof.Bins.lean ====
/-
  The bins. A sample is in bin `b` when its gradient norm lies between edges `b` and `b + 1`. The loss is written here as
  one real number made of the ten bins' counts and sums, `answer`. The kernel counts the samples that reach an edge and
  takes differences; the reference gives each sample its bin's weight and takes the mean. Both come to `answer`.
-/
module

public import proofs.«01_k».proof.Proof.Packing

@[expose] public section

noncomputable section

namespace Cert.Model

open Idealize.ShloMosaic

variable {ι : Type} [Fintype ι]

/-- Sample `i` is in bin `b`. -/
abbrev InBin (E : ℕ → EReal) (g : ι → EReal) (b : ℕ) (i : ι) : Prop := E b ≤ g i ∧ g i < E (b + 1)

/-- The number of samples in bin `b`. -/
def binCount (E : ℕ → EReal) (g : ι → EReal) (b : ℕ) : ℝ := ∑ i, pick (InBin E g b i) 1

/-- The sum of the values of the samples in bin `b`. -/
def binTotal (E : ℕ → EReal) (g : ι → EReal) (c : ι → ℝ) (b : ℕ) : ℝ := ∑ i, pick (InBin E g b i) (c i)

/-- A bin's part of the loss. -/
def part (K S : ℕ → ℝ) (b : ℕ) : ℝ := if 0 < K b then S b / (tenth * K b) else 0

/-- The number of bins not empty among the first `n`. -/
def occupied (K : ℕ → ℝ) (n : ℕ) : ℝ := ∑ b ∈ Finset.range n, if 0 < K b then 1 else 0

/-- The loss. -/
def answer (K S : ℕ → ℝ) : ℝ := (∑ b ∈ Finset.range 10, part K S b) / max (occupied K 10) 1

/-- The number of bins not empty is not negative. -/
theorem occupied_nonneg (K : ℕ → ℝ) (n : ℕ) : 0 ≤ occupied K n :=
  Finset.sum_nonneg fun b _ => by split <;> norm_num

variable {E : ℕ → EReal} {g : ι → EReal} {c : ι → ℝ}

/-! ## Counting by differences -/

/-- What is at or above a bin's lower edge, less what is at or above its upper edge, is what is in the bin. -/
theorem pick_diff (h : ∀ b < 10, E b ≤ E (b + 1)) {b : ℕ} (hb : b < 10) (i : ι) (x : ℝ) :
    pick (E b ≤ g i) x - pick (E (b + 1) ≤ g i) x = pick (InBin E g b i) x := by
  unfold pick InBin
  by_cases h1 : E (b + 1) ≤ g i
  · have h0 : E b ≤ g i := (h b hb).trans h1
    have h2 : ¬ g i < E (b + 1) := not_lt.2 h1
    simp [h0, h1, h2]
  · have h2 : g i < E (b + 1) := not_le.1 h1
    by_cases h0 : E b ≤ g i <;> simp [h0, h1, h2]

/-- The sum over the samples of a bin is a difference of two sums over the samples at or above an edge. -/
theorem sum_diff (h : ∀ b < 10, E b ≤ E (b + 1)) {b : ℕ} (hb : b < 10) (x : ι → ℝ) :
    (∑ i, pick (E b ≤ g i) (x i)) - (∑ i, pick (E (b + 1) ≤ g i) (x i)) = ∑ i, pick (InBin E g b i) (x i) := by
  rw [← Finset.sum_sub_distrib]
  exact Finset.sum_congr rfl fun i _ => pick_diff h hb i (x i)

/-- No sample is below edge 0, when no gradient norm is negative. -/
theorem sum_all (h0 : E 0 = 0) (hg : ∀ i, 0 ≤ g i) (x : ι → ℝ) : (∑ i, pick (E 0 ≤ g i) (x i)) = ∑ i, x i :=
  Finset.sum_congr rfl fun i _ => if_pos (h0 ▸ hg i)

/-- A bin not empty holds at least one sample. -/
theorem one_le_count {b : ℕ} (h : 0 < binCount E g b) : 1 ≤ binCount E g b := by
  unfold binCount at *
  rw [count_nat] at *
  exact_mod_cast h

/-- A bin's count is not negative. -/
theorem binCount_nonneg (b : ℕ) : 0 ≤ binCount E g b := by
  unfold binCount
  rw [count_nat]
  exact Nat.cast_nonneg _

/-! ## Weighting the samples -/

/-- The bins do not meet. -/
theorem bin_unique (h : ∀ b < 10, E b ≤ E (b + 1)) {b b' : ℕ} (hb : b < b') (hb' : b' < 10) {i : ι} (hi : InBin E g b' i) :
    ¬ InBin E g b i := by
  have hm : ∀ n, b + 1 ≤ n → n ≤ b' → E (b + 1) ≤ E n := by
    intro n hn
    induction n, hn using Nat.le_induction with
    | base => intro _; exact le_rfl
    | succ n hn ih => intro hle; exact (ih (by omega)).trans (h n (by omega))
  exact fun hi' => absurd (hi'.2.trans_le ((hm b' hb le_rfl).trans hi.1)) (lt_irrefl _)

/-- The weight the samples of bin `b` take. -/
def weightOf (K : ℕ → ℝ) (b : ℕ) : ℝ := 8388608 / (tenth * K b)

/-- The weight of sample `i` after the first `n` bins, each overwriting the earlier. -/
def weightAt (E : ℕ → EReal) (g : ι → EReal) (K : ℕ → ℝ) : ℕ → ι → ℝ
  | 0, _ => 0
  | b + 1, i => if InBin E g b i ∧ 0 < K b then weightOf K b else weightAt E g K b i

/-- A sample's weight is a sum over the bins, of which at most one holds the sample. -/
theorem weightAt_eq (h : ∀ b < 10, E b ≤ E (b + 1)) (K : ℕ → ℝ) (n : ℕ) (hn : n ≤ 10) (i : ι) :
    weightAt E g K n i = ∑ b ∈ Finset.range n, if InBin E g b i ∧ 0 < K b then weightOf K b else 0 := by
  induction n with
  | zero => rfl
  | succ n ih =>
    rw [Finset.sum_range_succ, weightAt]
    by_cases hi : InBin E g n i ∧ 0 < K n
    · rw [if_pos hi, if_pos hi, Finset.sum_eq_zero, zero_add]
      intro b hb
      rw [if_neg fun hb' => bin_unique h (Finset.mem_range.1 hb) (by omega) hi.1 hb'.1]
    · rw [if_neg hi, if_neg hi, add_zero, ih (by omega)]

/-- The mean of the weighted values is the loss. -/
theorem mean_eq (h : ∀ b < 10, E b ≤ E (b + 1)) :
    (∑ i, weightAt E g (binCount E g) 10 i / max (occupied (binCount E g) 10) 1 * c i) / 8388608
      = answer (binCount E g) (binTotal E g c) := by
  unfold answer
  have hs : ∀ i, weightAt E g (binCount E g) 10 i / max (occupied (binCount E g) 10) 1 * c i
      = (∑ b ∈ Finset.range 10, pick (InBin E g b i) (c i) * (if 0 < binCount E g b then weightOf (binCount E g) b else 0))
        / max (occupied (binCount E g) 10) 1 := by
    intro i
    rw [weightAt_eq h _ 10 le_rfl, div_mul_eq_mul_div, Finset.sum_mul]
    congr 1
    refine Finset.sum_congr rfl fun b _ => ?_
    unfold pick
    by_cases h1 : InBin E g b i <;> by_cases h2 : 0 < binCount E g b <;> simp [h1, h2, mul_comm]
  rw [Finset.sum_congr rfl fun i _ => hs i, ← Finset.sum_div, Finset.sum_comm, div_right_comm, Finset.sum_div]
  congr 1
  refine Finset.sum_congr rfl fun b _ => ?_
  rw [← Finset.sum_mul]
  unfold part binTotal weightOf
  split
  · rw [mul_div_assoc, div_right_comm, div_self (by norm_num), mul_one_div]
  · simp

end Cert.Model

end
-- ==== Proof.Chunks.lean ====
/-
  The kernel's chunks over the extended reals: the gradient norm and the cross entropy of one element, the packed words
  and the totals over the 64 chunks of a block.
-/
module

public import proofs.«01_k».proof.Proof.Body
public import proofs.«01_k».proof.Proof.Bins

@[expose] public section

set_option maxRecDepth 16384

noncomputable section

namespace Cert.KernelIdeal.Value

open Cert.KernelIdeal Cert.KernelIdeal.Gen Idealize.ShloMosaic Idealize.SL.Sem
open Cert.Model

/-! ## One element -/

/-- The divisor of the two probabilities. -/
theorem expSum_ideal (d : FVec Ideal S8x128 .f32) (j : S8x128.Idx) (x : ℝ) (h : d j = (x : EReal)) :
    expSum d j = (den x : EReal) := by
  show Ideal.ofBits .f32 0x3F800000#32 + Ideal.exp (Ideal.ofBits .f32 0x00000000#32 - max (d j) (-(d j))) = _
  rw [h, w_one, w_zero, ← EReal.coe_neg, ← max_coe, zero_sub, ← EReal.coe_neg, Ideal.exp_coe, ← EReal.coe_add]
  rfl

/-- 1 over the sum of the two exponentials. -/
theorem div_den (x : ℝ) : Ideal.div ((1 : ℝ) : EReal) (den x : EReal) = ((1 / den x : ℝ) : EReal) := by
  rw [Ideal.div_coe (den_pos x).ne', ← EReal.coe_mul, one_mul]

/-- The kernel's probability of class 0. -/
theorem prob0_ideal (d : FVec Ideal S8x128 .f32) (j : S8x128.Idx) (x : ℝ) (h : d j = (x : EReal)) :
    prob0 d j = (prob x : EReal) := by
  show (if Ideal.cmp .oge (d j) (Ideal.ofBits .f32 0x00000000#32) = 1#1 then Ideal.div (Ideal.ofBits .f32 0x3F800000#32) (expSum d j)
    else Ideal.ofBits .f32 0x3F800000#32 - Ideal.div (Ideal.ofBits .f32 0x3F800000#32) (expSum d j)) = _
  rw [expSum_ideal d j x h, h, w_one, w_zero, div_den, ← EReal.coe_sub]
  unfold prob Ideal.cmp
  by_cases hx : 0 ≤ x <;> simp [hx]

/-- The gradient norm of one element. -/
theorem gnorm_ideal (x0 x1 t0 t1 : FVec Ideal S8x128 .f32) (j : S8x128.Idx) (a b : ℝ) (h0 : x0 j = (a : EReal))
    (h1 : x1 j = (b : EReal)) : gnorm x0 x1 t0 t1 j = norm (a - b) (t0 j) (t1 j) := by
  have hd : subf x0 x1 j = ((a - b : ℝ) : EReal) := by
    show x0 j - x1 j = _
    rw [h0, h1, EReal.coe_sub]
  show mag (prob0 (subf x0 x1) j - t0 j) * t0 j
    + mag (Ideal.ofBits .f32 0x3F800000#32 - prob0 (subf x0 x1) j - t1 j) * t1 j = _
  rw [prob0_ideal _ j _ hd, w_one, ← EReal.coe_sub]
  rfl

/-- The cross entropy of one element. -/
theorem xent_ideal (x0 x1 t0 t1 : FVec Ideal S8x128 .f32) (j : S8x128.Idx) (a b : ℝ) (h0 : x0 j = (a : EReal))
    (h1 : x1 j = (b : EReal)) : xent x0 x1 t0 t1 j = (cross (a - b) (t0 j) (t1 j) : EReal) := by
  have hd : subf x0 x1 j = ((a - b : ℝ) : EReal) := by
    show x0 j - x1 j = _
    rw [h0, h1, EReal.coe_sub]
  show max (if Ideal.cmp .oge (t0 j) (t1 j) = 1#1 then Ideal.ofBits .f32 0x00000000#32 - subf x0 x1 j else subf x0 x1 j)
      (Ideal.ofBits .f32 0x00000000#32) + Ideal.log (expSum (subf x0 x1) j) = _
  rw [expSum_ideal _ j _ hd, hd, w_zero, Ideal.log_coe, if_neg (not_le.2 (den_pos _)), zero_sub, ← EReal.coe_neg]
  unfold cross Ideal.cmp
  by_cases h : t1 j ≤ t0 j <;> simp [h, ← EReal.coe_zero, ← max_coe, -EReal.coe_neg, -EReal.coe_sub]

/-! ## The 64 chunks of a block -/

section Block

variable (x0 x1 t0 t1 : Vec Ideal S1x512x128 .f32) (j : S8x128.Idx) (g : Fin 64 → EReal) (c : Fin 64 → ℝ)

/-- The packed word over the first `n` chunks. -/
theorem carry_ideal (hg : ∀ n : Fin 64, gAt x0 x1 t0 t1 n.val n.isLt j = g n) (hc : ∀ n : Fin 64, ceAt x0 x1 t0 t1 n.val n.isLt j = (c n : EReal))
    (w : BitVec 32) (n : ℕ) (h : n ≤ 64) :
    carry x0 x1 t0 t1 w n h j
      = ((∑ i : Fin n, if Ideal.ofBits .f32 w ≤ g (i.castLE h) then c (i.castLE h) + 8192 else 0 : ℝ) : EReal) := by
  induction n with
  | zero =>
    rw [Finset.univ_eq_empty, Finset.sum_empty]
    exact w_zero
  | succ n ih =>
    rw [Fin.sum_univ_castSucc, EReal.coe_add]
    refine (congrArg₂ (· + ·) (ih (Nat.le_of_succ_le h)) ?_ : _)
    show (if Ideal.cmp .oge (gAt x0 x1 t0 t1 n h j) (Ideal.ofBits .f32 w) = 1#1
      then ceAt x0 x1 t0 t1 n h j + Ideal.ofBits .f32 0x46000000#32 else Ideal.ofBits .f32 0x00000000#32) = _
    rw [hg ⟨n, h⟩, hc ⟨n, h⟩, w_pack, w_zero, ← EReal.coe_add]
    show _ = (((if Ideal.ofBits .f32 w ≤ g ⟨n, h⟩ then c ⟨n, h⟩ + 8192 else 0 : ℝ)) : EReal)
    unfold Ideal.cmp
    by_cases hw : Ideal.ofBits .f32 w ≤ g ⟨n, h⟩ <;> simp [hw, -EReal.coe_add]

/-- The total over the first `n` chunks. -/
theorem total_ideal (hc : ∀ n : Fin 64, ceAt x0 x1 t0 t1 n.val n.isLt j = (c n : EReal)) (n : ℕ) (h : n ≤ 64) :
    total x0 x1 t0 t1 n h j = ((∑ i : Fin n, c (i.castLE h) : ℝ) : EReal) := by
  induction n with
  | zero =>
    rw [Finset.univ_eq_empty, Finset.sum_empty]
    exact w_zero
  | succ n ih =>
    rw [Fin.sum_univ_castSucc, EReal.coe_add]
    exact congrArg₂ (· + ·) (ih (Nat.le_of_succ_le h)) (hc ⟨n, h⟩)

/-- The packed word over the whole block. -/
theorem carry_block (hg : ∀ n : Fin 64, gAt x0 x1 t0 t1 n.val n.isLt j = g n) (hc : ∀ n : Fin 64, ceAt x0 x1 t0 t1 n.val n.isLt j = (c n : EReal))
    (w : BitVec 32) :
    carry x0 x1 t0 t1 w 64 le_rfl j
      = (((∑ i : Fin 64, pick (Ideal.ofBits .f32 w ≤ g i) (c i))
          + 8192 * ((Finset.univ.filter fun i : Fin 64 => Ideal.ofBits .f32 w ≤ g i).card : ℝ) : ℝ) : EReal) := by
  rw [carry_ideal x0 x1 t0 t1 j g c hg hc w 64 le_rfl, ← count_nat, ← pack_sum]
  rfl

/-- The number of samples that reach an edge. -/
theorem incC_ideal (hg : ∀ n : Fin 64, gAt x0 x1 t0 t1 n.val n.isLt j = g n) (hc : ∀ n : Fin 64, ceAt x0 x1 t0 t1 n.val n.isLt j = (c n : EReal))
    (h0 : ∀ i, 0 ≤ c i) (h1 : ∀ i, c i < 128) (k : Fin 10) :
    incC x0 x1 t0 t1 k j = ((∑ i : Fin 64, pick (Ideal.ofBits .f32 (edgeW k) ≤ g i) 1 : ℝ) : EReal) := by
  have hr := pick_sum_range (Fintype.card_fin 64) (fun i => Ideal.ofBits .f32 (edgeW k) ≤ g i) c h0 h1
  show Ideal.liftRound Int.floor (carry x0 x1 t0 t1 (edgeW k) 64 le_rfl j * Ideal.ofBits .f32 0x39000000#32) = _
  rw [carry_block x0 x1 t0 t1 j g c hg hc, w_unpack, unpack_count _ _ hr.1 hr.2, count_nat]

/-- The sum over the samples that reach an edge. -/
theorem incS_ideal (hg : ∀ n : Fin 64, gAt x0 x1 t0 t1 n.val n.isLt j = g n) (hc : ∀ n : Fin 64, ceAt x0 x1 t0 t1 n.val n.isLt j = (c n : EReal))
    (h0 : ∀ i, 0 ≤ c i) (h1 : ∀ i, c i < 128) (k : Fin 10) :
    incS x0 x1 t0 t1 k j = ((∑ i : Fin 64, pick (Ideal.ofBits .f32 (edgeW k) ≤ g i) (c i) : ℝ) : EReal) := by
  have hk := incC_ideal x0 x1 t0 t1 j g c hg hc h0 h1 k
  rw [count_nat] at hk
  show carry x0 x1 t0 t1 (edgeW k) 64 le_rfl j - incC x0 x1 t0 t1 k j * Ideal.ofBits .f32 0x46000000#32 = _
  rw [hk, carry_block x0 x1 t0 t1 j g c hg hc, w_pack, unpack_sum]

end Block

end Cert.KernelIdeal.Value

end
-- ==== Proof.Edges.lean ====
/-
  The edges of the bins as extended reals: they start at 0 and do not fall. With them, the samples of the two argument
  arrays: a sample's gradient norm and cross entropy.
-/
module

public import proofs.«01_k».proof.Proof.Lines
public import proofs.«01_k».proof.Proof.Bins
public import Idealize.ShloMosaic.Lib.Pointwise.Index

@[expose] public section

noncomputable section

namespace Cert.Model

open Idealize.ShloMosaic Cert.ReferenceIdeal.Value

/-- Edge `b`. -/
def level (b : ℕ) : EReal := Ideal.ofBits .f32 (edge b)

/-- Edge 0 is 0. -/
theorem level_zero : level 0 = 0 := w_zero

/-- The edges do not fall. -/
theorem level_mono : ∀ b < 10, level b ≤ level (b + 1) := by
  intro b hb
  unfold level
  interval_cases b <;> simp [edge, Ideal.ofBits, Ideal.ieee, -EReal.coe_mul] <;> norm_num

/-! ## The samples of the argument arrays -/

/-- The number of samples, by two. -/
abbrev Rows : Shape := ⟨2, ![8388608, 2]⟩

/-- The difference of a sample's logits. -/
def gap (x : Rows.Idx → EReal) (i : Fin 8388608) : ℝ := (x (ix2 i (0 : Fin 2))).toReal - (x (ix2 i (1 : Fin 2))).toReal

/-- A sample's gradient norm. -/
def gradNorm (x t : Rows.Idx → EReal) (i : Fin 8388608) : EReal := norm (gap x i) (t (ix2 i (0 : Fin 2))) (t (ix2 i (1 : Fin 2)))

/-- A sample's cross entropy. -/
def entropy (x t : Rows.Idx → EReal) (i : Fin 8388608) : ℝ := cross (gap x i) (t (ix2 i (0 : Fin 2))) (t (ix2 i (1 : Fin 2)))

/-- The inputs the equality is proved for: finite logits at most 127 apart in each row, and targets not negative. -/
structure Fits (x t : Rows.Idx → EReal) : Prop where
  left : ∀ i : Fin 8388608, x (ix2 i (0 : Fin 2)) = ((x (ix2 i (0 : Fin 2))).toReal : EReal)
  right : ∀ i : Fin 8388608, x (ix2 i (1 : Fin 2)) = ((x (ix2 i (1 : Fin 2))).toReal : EReal)
  near : ∀ i : Fin 8388608, |gap x i| ≤ 127
  target : ∀ (i : Fin 8388608) (k : Fin 2), 0 ≤ t (ix2 i k)

variable {x t : Rows.Idx → EReal}

/-- No gradient norm is negative. -/
theorem Fits.gradNorm_nonneg (h : Fits x t) (i : Fin 8388608) : 0 ≤ gradNorm x t i := norm_nonneg _ _ _ (h.target i 0) (h.target i 1)

/-- No cross entropy is negative. -/
theorem Fits.entropy_nonneg (i : Fin 8388608) : 0 ≤ entropy x t i := cross_nonneg _ _ _

/-- Every cross entropy is below 128. -/
theorem Fits.entropy_lt (h : Fits x t) (i : Fin 8388608) : entropy x t i < 128 := cross_lt _ _ _ (h.near i)

/-- The loss of the two arrays. -/
def lossOf (x t : Rows.Idx → EReal) : ℝ := answer (binCount level (gradNorm x t)) (binTotal level (gradNorm x t) (entropy x t))

end Cert.Model

end
-- ==== Proof.Totals.lean ====
/-
  The kernel's rows over the extended reals. A row of the scratch sums to the sum over all samples of what each adds:
  one for a sample that reaches the row's edge, or its cross entropy.
-/
module

public import proofs.«01_k».proof.Proof.Sweep
public import proofs.«01_k».proof.Proof.Blocks
public import proofs.«01_k».proof.Proof.Chunks
public import proofs.«01_k».proof.Proof.Edges
public import Idealize.ShloMosaic.Lib.Pointwise.Reshape

@[expose] public section

set_option maxRecDepth 16384

noncomputable section

namespace Cert.KernelIdeal.Value

open Cert.KernelIdeal Cert.KernelIdeal.Gen Idealize.ShloMosaic Idealize.ShloMosaic.TcCoe Idealize.SL.Sem
open Cert.Model

/-! ## Every sample once -/

/-- The sample at each row, lane, grid point and chunk. -/
abbrev place (p : Fin 8 × Fin 128 × Fin 128 × Fin 64) : Fin 8388608 := sample p.2.2.1 p.2.2.2 p.1 p.2.1

/-- No two places hold the same sample. -/
theorem place_injective : Function.Injective place := by
  rintro ⟨r, l, t, n⟩ ⟨r', l', t', n'⟩ h
  have h' := congrArg Fin.val h
  simp only [place, sample] at h'
  have := r.isLt; have := l.isLt; have := n.isLt
  have := r'.isLt; have := l'.isLt; have := n'.isLt
  have e1 : l = l' := Fin.ext (by omega)
  have e2 : r = r' := Fin.ext (by omega)
  have e3 : n = n' := Fin.ext (by omega)
  have e4 : t = t' := Fin.ext (by omega)
  subst e1 e2 e3 e4
  rfl

/-- Every sample has exactly one place. -/
theorem place_bijective : Function.Bijective place := by
  rw [Fintype.bijective_iff_injective_and_card]
  refine ⟨place_injective, ?_⟩
  simp only [Fintype.card_prod, Fintype.card_fin]

/-- A sum over the places is a sum over the samples. -/
theorem sum_place (f : Fin 8388608 → ℝ) :
    (∑ r : Fin 8, ∑ l : Fin 128, ∑ t : Fin 128, ∑ n : Fin 64, f (sample t n r l)) = ∑ i, f i := by
  rw [← place_bijective.sum_comp f]
  simp only [Fintype.sum_prod_type]

/-! ## A row's sum -/

/-- The sum of a row over its rows and lanes. -/
theorem rowSum_ideal (v : Vec Ideal S1x8x128 .f32) :
    rowSum v = ∑ r : Fin 8, ∑ l : Fin 128, v (ix3 (0 : Fin 1) r l) := by
  unfold rowSum
  rw [shapeCast_comp, shapeCast_self]
  refine (Ideal.multiReduction_add_total v 0x00000000#32 reduces_S1x8x128_S1 (fun b => ?_) (.inl rfl) rfl
    (Shape.reshapeEquiv shapeCasts_S1_S1x1x1 (fun a => ⟨![0, 0, 0] a, inpos_S1x1x1_p0_0_0 a⟩))).trans ?_
  · match b with
    | ⟨0, _⟩ => rfl
  · rw [sum_idx3, Fin.sum_univ_one]

section Point

variable (m : (ℓ : Loc nD τ sig) → Buf (Elt Ideal) ℓ) (c : Dev nD)

/-- An entry of the scratch after point `n` is the sum of the increments so far. -/
theorem held_ideal (k : Fin 21) (r : Fin 8) (l : Fin 128) (f : Fin cfg0.N → ℝ)
    (hf : ∀ t, incAt m c t k.val (ix2 r l) = (f t : EReal)) (n : ℕ) (h : n < cfg0.N) :
    held m c k r l n h = ((∑ t : Fin (n + 1), f (t.castLE h) : ℝ) : EReal) := by
  induction n with
  | zero =>
    rw [Fin.sum_univ_one]
    show Ideal.ofBits .f32 0x00000000#32 + incAt m c ⟨0, h⟩ k.val (ix2 r l) = _
    rw [w_zero, zero_add, hf]
    rfl
  | succ n ih =>
    rw [Fin.sum_univ_castSucc, EReal.coe_add]
    exact congrArg₂ (· + ·) (ih (Nat.lt_of_succ_lt h)) (hf ⟨n + 1, h⟩)

/-- A row sums to the sum over the samples of what each adds to it. -/
theorem row_total (k : ℕ) (hk : k < 21) (f : Fin 8388608 → ℝ)
    (hf : ∀ (t : Fin cfg0.N) (r : Fin 8) (l : Fin 128),
      incAt m c t k (ix2 r l) = ((∑ n : Fin 64, f (sample (t.cast N_0) n r l) : ℝ) : EReal)) :
    rowSum (rows m c k hk) = ((∑ i, f i : ℝ) : EReal) := by
  rw [rowSum_ideal, ← sum_place]
  simp only [sum_coe]
  refine Finset.sum_congr rfl fun r _ => Finset.sum_congr rfl fun l _ => ?_
  show held m c ⟨k, hk⟩ r l 127 last.isLt = _
  rw [held_ideal m c ⟨k, hk⟩ r l _ (fun t => hf t r l) 127 last.isLt]
  simp only [sum_coe]
  rfl

end Point

end Cert.KernelIdeal.Value

end
-- ==== Proof.KernelLoss.lean ====
/-
  The kernel's result over the extended reals, for inputs that fit: the loss of the two argument arrays.
-/
module

public import proofs.«01_k».proof.Proof.Totals

@[expose] public section

set_option maxRecDepth 16384

noncomputable section

namespace Cert.KernelIdeal.Value

open Cert.KernelIdeal Cert.KernelIdeal.Gen Idealize.ShloMosaic Idealize.ShloMosaic.TcCoe Idealize.SL.Sem
open Cert.Model

/-! ## What a point adds -/

section Point

variable (m : (ℓ : Loc nD τ sig) → Buf (Elt Ideal) ℓ) (c : Dev nD)

/-- The logits. -/
abbrev logits : Rows.Idx → EReal := m ((c : Thread nD τ).loc main_arg0)

/-- The targets. -/
abbrev targets : Rows.Idx → EReal := m ((c : Thread nD τ).loc main_arg1)

/-- A sample's gradient norm in the kernel. -/
theorem gAt_sample (h : Fits (logits m c) (targets m c)) (t : Fin cfg0.N) (n : Fin 64) (r : Fin 8) (l : Fin 128) :
    gAt (iblk m c 0 t) (iblk m c 1 t) (iblk m c 2 t) (iblk m c 3 t) n.val n.isLt (ix2 r l)
      = gradNorm (logits m c) (targets m c) (sample (t.cast N_0) n r l) := by
  have e := gnorm_ideal (chunk (iblk m c 0 t) n.val n.isLt) (chunk (iblk m c 1 t) n.val n.isLt)
    (chunk (iblk m c 2 t) n.val n.isLt) (chunk (iblk m c 3 t) n.val n.isLt) (ix2 r l) _ _
    ((blk0 m c t n r l).trans (h.left _)) ((blk1 m c t n r l).trans (h.right _))
  rw [blk2 m c t n r l, blk3 m c t n r l] at e
  exact e

/-- A sample's cross entropy in the kernel. -/
theorem ceAt_sample (h : Fits (logits m c) (targets m c)) (t : Fin cfg0.N) (n : Fin 64) (r : Fin 8) (l : Fin 128) :
    ceAt (iblk m c 0 t) (iblk m c 1 t) (iblk m c 2 t) (iblk m c 3 t) n.val n.isLt (ix2 r l)
      = (entropy (logits m c) (targets m c) (sample (t.cast N_0) n r l) : EReal) := by
  have e := xent_ideal (chunk (iblk m c 0 t) n.val n.isLt) (chunk (iblk m c 1 t) n.val n.isLt)
    (chunk (iblk m c 2 t) n.val n.isLt) (chunk (iblk m c 3 t) n.val n.isLt) (ix2 r l) _ _
    ((blk0 m c t n r l).trans (h.left _)) ((blk1 m c t n r l).trans (h.right _))
  rw [blk2 m c t n r l, blk3 m c t n r l] at e
  exact e

/-- The words that the kernel compares with are those of the edges 1 to 10. -/
theorem edgeW_level : ∀ k : Fin 10, edgeW k = Cert.ReferenceIdeal.Value.edge (k.val + 1) := by decide

/-- The rows of counts. -/
theorem count_row (h : Fits (logits m c) (targets m c)) (k : ℕ) (hk : k < 10) :
    rowSum (rows m c k (by omega)) = ((∑ i, pick (level (k + 1) ≤ gradNorm (logits m c) (targets m c) i) 1 : ℝ) : EReal) := by
  refine row_total m c k _ _ fun t r l => ?_
  have e := incC_ideal (iblk m c 0 t) (iblk m c 1 t) (iblk m c 2 t) (iblk m c 3 t) (ix2 r l) _ _
    (fun n => gAt_sample m c h t n r l) (fun n => ceAt_sample m c h t n r l)
    (fun n => Fits.entropy_nonneg _) (fun n => h.entropy_lt _) ⟨k, hk⟩
  rw [edgeW_level] at e
  unfold incAt inc
  rw [dif_pos hk]
  exact e

/-- The rows of sums, the row of totals among them. -/
theorem sum_row (h : Fits (logits m c) (targets m c)) (b : ℕ) (hb : b ≤ 10) :
    rowSum (rows m c (10 + b) (by omega))
      = ((∑ i, pick (level b ≤ gradNorm (logits m c) (targets m c) i) (entropy (logits m c) (targets m c) i) : ℝ) : EReal) := by
  cases b with
  | zero =>
    rw [sum_all level_zero h.gradNorm_nonneg]
    refine row_total m c 10 _ _ fun t r l => ?_
    exact total_ideal (iblk m c 0 t) (iblk m c 1 t) (iblk m c 2 t) (iblk m c 3 t) (ix2 r l) _
      (fun n => ceAt_sample m c h t n r l) 64 le_rfl
  | succ k =>
    refine row_total m c (10 + (k + 1)) _ _ fun t r l => ?_
    have e := incS_ideal (iblk m c 0 t) (iblk m c 1 t) (iblk m c 2 t) (iblk m c 3 t) (ix2 r l) _ _
      (fun n => gAt_sample m c h t n r l) (fun n => ceAt_sample m c h t n r l)
      (fun n => Fits.entropy_nonneg _) (fun n => h.entropy_lt _) ⟨k, by omega⟩
    rw [edgeW_level] at e
    have hk : 10 + (k + 1) - 11 = k := by omega
    unfold incAt inc
    rw [dif_neg (by omega), if_neg (by omega), dif_pos (by omega)]
    simp only [hk]
    exact e

end Point

/-! ## The final value -/

section Final

variable (rd : (k : ℕ) → k < 21 → Vec Ideal S1x8x128 .f32) (K S : ℕ → ℝ)

/-- The flag of a bin. -/
theorem binOn_ideal (b : ℕ) (h : b < 10) (hK : binCnt rd b h = (K b : EReal)) : binOn rd b h = BitVec.ofBool (decide (0 < K b)) := by
  show Ideal.cmp .ogt (binCnt rd b h) (Ideal.ofBits .f32 0x00000000#32) = _
  rw [hK, w_zero]
  unfold Ideal.cmp
  congr 1
  simp

/-- The number of bins not empty. -/
theorem bins_ideal (hK : ∀ b (h : b < 10), binCnt rd b h = (K b : EReal)) (n : ℕ) (h : n ≤ 10) :
    bins rd n h = (occupied K n : EReal) := by
  induction n with
  | zero => exact w_zero
  | succ n ih =>
    unfold occupied
    rw [Finset.sum_range_succ, EReal.coe_add]
    refine congrArg₂ (· + ·) (ih (Nat.le_of_succ_le h)) ?_
    show ((((binOn rd n h).setWidth 32).toInt : ℝ) : EReal) = _
    rw [binOn_ideal rd K n h (hK n h)]
    by_cases hp : 0 < K n <;> simp [hp]

/-- The weighted sum over the bins. -/
theorem weighted_ideal (hK : ∀ b (h : b < 10), binCnt rd b h = (K b : EReal)) (hS : ∀ b (h : b < 10), binSum rd b h = (S b : EReal))
    (h1 : ∀ b, 0 < K b → 1 ≤ K b) (n : ℕ) (h : n ≤ 10) :
    weighted rd n h = ((∑ b ∈ Finset.range n, part K S b : ℝ) : EReal) := by
  induction n with
  | zero => exact w_zero
  | succ n ih =>
    rw [Finset.sum_range_succ, EReal.coe_add]
    refine congrArg₂ (· + ·) (ih (Nat.le_of_succ_le h)) ?_
    show (if binOn rd n h = 1#1 then Ideal.div (binSum rd n h)
      (Ideal.ofBits .f32 0x3DCCCCCD#32 * max (binCnt rd n h) (Ideal.ofBits .f32 0x3F800000#32)) else Ideal.ofBits .f32 0x00000000#32) = _
    rw [binOn_ideal rd K n h (hK n h), hK n h, hS n h, w_tenth, w_one, w_zero, ← max_coe, ← EReal.coe_mul]
    unfold part
    by_cases hp : 0 < K n
    · have hq : tenth * K n ≠ 0 := by positivity
      rw [max_eq_left (h1 n hp), Ideal.div_coe hq, ← EReal.coe_mul, mul_one_div]
      simp [hp]
    · simp [hp]

/-- The final value is the loss of the bins. -/
theorem final_ideal (hK : ∀ b (h : b < 10), binCnt rd b h = (K b : EReal)) (hS : ∀ b (h : b < 10), binSum rd b h = (S b : EReal))
    (h1 : ∀ b, 0 < K b → 1 ≤ K b) : final rd = (answer K S : EReal) := by
  show Ideal.div (weighted rd 10 le_rfl) (max (bins rd 10 le_rfl) (Ideal.ofBits .f32 0x3F800000#32)) = _
  have hne : max (occupied K 10) 1 ≠ 0 := (lt_of_lt_of_le one_pos (le_max_right _ _)).ne'
  rw [weighted_ideal rd K S hK hS h1, bins_ideal rd K hK, w_one, ← max_coe, Ideal.div_coe hne, ← EReal.coe_mul, mul_one_div]
  rfl

end Final

/-! ## The result -/

section Result

variable (m : (ℓ : Loc nD τ sig) → Buf (Elt Ideal) ℓ) (c : Dev nD)

/-- The counts of the bins. -/
theorem binCnt_loss (h : Fits (logits m c) (targets m c)) (b : ℕ) (hb : b < 10) :
    binCnt (rows m c) b hb = (binCount level (gradNorm (logits m c) (targets m c)) b : EReal) := by
  unfold binCount
  rw [← sum_diff level_mono hb, EReal.coe_sub]
  cases b with
  | zero =>
    rw [sum_all level_zero h.gradNorm_nonneg]
    refine congrArg₂ (· - ·) (w_samples.trans ?_) (count_row m c h 0 (by omega))
    rw [Finset.sum_const, Finset.card_univ, Fintype.card_fin]
    norm_num
  | succ k => exact congrArg₂ (· - ·) (count_row m c h k (by omega)) (count_row m c h (k + 1) hb)

/-- The sums of the bins. -/
theorem binSum_loss (h : Fits (logits m c) (targets m c)) (b : ℕ) (hb : b < 10) :
    binSum (rows m c) b hb
      = (binTotal level (gradNorm (logits m c) (targets m c)) (entropy (logits m c) (targets m c)) b : EReal) := by
  unfold binTotal
  rw [← sum_diff level_mono hb, EReal.coe_sub]
  have e : ∀ (k : ℕ) (hk : k < 21), k = 10 + (b + 1) → rowSum (rows m c k hk)
      = ((∑ i, pick (level (b + 1) ≤ gradNorm (logits m c) (targets m c) i) (entropy (logits m c) (targets m c) i) : ℝ) : EReal) := by
    rintro k hk rfl
    exact sum_row m c h (b + 1) (by omega)
  exact congrArg₂ (· - ·) (sum_row m c h b (by omega)) (e (11 + b) (by omega) (by omega))

/-- The kernel's result is the loss of the two arrays. -/
theorem result_loss (h : Fits (logits m c) (targets m c)) :
    result m c = fun _ => (lossOf (logits m c) (targets m c) : EReal) :=
  funext fun _ => final_ideal (rows m c) _ _ (binCnt_loss m c h) (binSum_loss m c h) fun _ hp => one_le_count hp

end Result

end Cert.KernelIdeal.Value

end
-- ==== Proof.RefRows.lean ====
/-
  The reference's rows of two over the extended reals: sums and maxima over the two columns, and the label.
-/
module

public import proofs.«01_k».proof.Proof.Read
public import proofs.«01_k».proof.Proof.Edges
public import Idealize.ShloMosaic.Lib.Pointwise
public import Idealize.ShloMosaic.Lib.ReduceAll
public import Idealize.ShloMosaic.Lib.ValueIdx

@[expose] public section

set_option maxRecDepth 16384

noncomputable section

namespace Cert.ReferenceIdeal.Value

open Cert.ReferenceIdeal Cert.ReferenceIdeal.Gen Idealize.ShloMosaic Idealize.SL.Sem
open Cert.Model

/-! ## The two columns -/

/-- A sample vector as both columns holds the sample's entry in each. -/
theorem both_apply (v : Vf Ideal) (i : Fin 8388608) (k : Fin 2) : both v (ix2 i k) = v (ix1 i) := by
  pointwise

/-- A sum over the two columns. -/
theorem rowAdd_apply (x : Mf Ideal) (i : Fin 8388608) :
    rowAdd x (ix1 i) = x (ix2 i (0 : Fin 2)) + x (ix2 i (1 : Fin 2)) := by
  refine (Ideal.hostReduceAdd_r2_a1 reducesTo_S8388608x2_S8388608_d1 x (Ideal.ofBits .f32 0x00000000#32) (ix1 i)).trans ?_
  rw [w_zero, zero_add, Fin.sum_univ_two]
  rfl

/-- The greater of the two columns. -/
theorem rowMax_apply (x : Mf Ideal) (i : Fin 8388608) :
    Host.reduce (FloatOps.maximumf : Ideal .f32 → Ideal .f32 → Ideal .f32) x (cst (F := Ideal) 0xFF800000#32)
        reducesTo_S8388608x2_S8388608_d1 h_S_ (ix1 i)
      = max (x (ix2 i (0 : Fin 2))) (x (ix2 i (1 : Fin 2))) := by
  refine (Host.reduce_eq_fold (max : EReal → EReal → EReal) x (fun _ => Ideal.ofBits .f32 0xFF800000#32)
    reducesTo_S8388608x2_S8388608_d1 h_S_ (ix1 i)).trans ?_
  rw [Shape.ReducesTo.fold_fiber_r2_a1, show (Finset.univ : Finset (Fin 2)) = {0, 1} from rfl,
    Finset.fold_insert (by decide), Finset.fold_singleton]
  rw [w_bottom, max_bot_right]
  rfl

/-- The places of a row of two that a fold over the columns runs through, in order. -/
theorem row_list {N : ℕ} (h : (⟨2, ![N, 2]⟩ : Shape).ReducesTo [1] ⟨1, ![N]⟩) (i : Fin N) :
    ((List.finRange (⟨2, ![N, 2]⟩ : Shape).numel).filter fun n => h.drop ((⟨2, ![N, 2]⟩ : Shape).rowMajor.symm n) = ix1 i)
      = [(⟨2, ![N, 2]⟩ : Shape).rowMajor (ix2 i (0 : Fin 2)), (⟨2, ![N, 2]⟩ : Shape).rowMajor (ix2 i (1 : Fin 2))] := by
  have hlt : (⟨2, ![N, 2]⟩ : Shape).rowMajor (ix2 i (0 : Fin 2)) < (⟨2, ![N, 2]⟩ : Shape).rowMajor (ix2 i (1 : Fin 2)) := by
    show (_ : Fin _).val < (_ : Fin _).val
    rw [Shape.rowMajor_val_two, Shape.rowMajor_val_two]
    show i.val * 2 + 0 < i.val * 2 + 1
    omega
  have s1 : ((List.finRange (⟨2, ![N, 2]⟩ : Shape).numel).filter
      fun n => h.drop ((⟨2, ![N, 2]⟩ : Shape).rowMajor.symm n) = ix1 i).Pairwise (· < ·) :=
    (List.pairwise_lt_finRange _).filter _
  have s2 : [(⟨2, ![N, 2]⟩ : Shape).rowMajor (ix2 i (0 : Fin 2)), (⟨2, ![N, 2]⟩ : Shape).rowMajor (ix2 i (1 : Fin 2))].Pairwise
      (· < ·) := by
    rw [List.pairwise_pair]
    exact hlt
  refine List.Perm.eq_of_pairwise (fun a b _ _ hab hba => absurd hab (lt_asymm hba)) s1 s2 ?_
  rw [List.perm_ext_iff_of_nodup (s1.imp ne_of_lt) (s2.imp ne_of_lt)]
  intro n
  rw [List.mem_filter, decide_eq_true_eq, h.fiber_r2_a1]
  simp only [List.mem_finRange, true_and, List.mem_cons, List.not_mem_nil, or_false]
  constructor
  · rintro ⟨k, hk⟩
    rw [Equiv.eq_symm_apply] at hk
    fin_cases k
    · exact Or.inl hk.symm
    · exact Or.inr hk.symm
  · rintro (rfl | rfl)
    · exact ⟨0, by rw [Equiv.symm_apply_apply]; rfl⟩
    · exact ⟨1, by rw [Equiv.symm_apply_apply]; rfl⟩

/-- A fold of two arrays over the two columns. -/
theorem reduce2_row {N : ℕ} {u : Shape} {α β : Type} (f : α × β → α × β → α × β) (x : (⟨2, ![N, 2]⟩ : Shape).Idx → α)
    (y : (⟨2, ![N, 2]⟩ : Shape).Idx → β) (a : u.Idx → α) (b : u.Idx → β)
    (h : (⟨2, ![N, 2]⟩ : Shape).ReducesTo [1] ⟨1, ![N]⟩) (hu : 0 < u.numel) (i : Fin N) :
    Host.reduce2 f x y a b h hu (ix1 i)
      = f (f (a (Shape.Idx.first hu), b (Shape.Idx.first hu)) (x (ix2 i (0 : Fin 2)), y (ix2 i (0 : Fin 2))))
          (x (ix2 i (1 : Fin 2)), y (ix2 i (1 : Fin 2))) := by
  rw [Host.reduce2_eq_foldl_fiber, Host.argReduceFiber, row_list h i]
  simp only [List.map_cons, List.map_nil, List.foldl_cons, List.foldl_nil, Equiv.symm_apply_apply]

/-- The step of the fold that finds the label, on ordered values. -/
theorem argmax_step (a b : EReal) (i j : BitVec 32) :
    reducer_argmax_f32_i32 (F := Ideal) (a, i) (b, j)
      = (max a b, if b < a ∨ (a = b ∧ i.slt j) then i else j) := by
  unfold reducer_argmax_f32_i32
  simp only [FloatOps.cmpf, Ideal.cmp, Scalar.select, IntOp.ori, IntOp.andi, IntOp.cmpi]
  rcases lt_trichotomy a b with h | h | h
  · simp [h, h.le, h.not_gt, h.ne]
  · subst h
    by_cases hs : i.slt j <;> simp [hs]
  · simp [h, h.le, h.not_gt, h.ne']

/-- The label of a row of two, over any number of rows: column 0 unless the target of column 1 is greater. -/
theorem argmax_row {N : ℕ} {u : Shape} (t : (⟨2, ![N, 2]⟩ : Shape).Idx → EReal) (y : (⟨2, ![N, 2]⟩ : Shape).Idx → BitVec 32)
    (a : u.Idx → EReal) (b : u.Idx → BitVec 32) (h : (⟨2, ![N, 2]⟩ : Shape).ReducesTo [1] ⟨1, ![N]⟩) (hu : 0 < u.numel) (i : Fin N)
    (hy0 : y (ix2 i (0 : Fin 2)) = 0#32) (hy1 : y (ix2 i (1 : Fin 2)) = 1#32) (ha : a (Shape.Idx.first hu) = ⊥)
    (hb : b (Shape.Idx.first hu) = 0#32) :
    (Host.argReduce (F := Ideal) (φ := .f32) reducer_argmax_f32_i32 t y a b h hu (ix1 i)).2
      = if t (ix2 i (1 : Fin 2)) ≤ t (ix2 i (0 : Fin 2)) then 0#32 else 1#32 := by
  rw [Ideal.argReduce_eq_reduce2, reduce2_row, ha, hb, hy0, hy1, argmax_step, argmax_step, max_bot_left]
  have e01 : (0#32).slt 1#32 = true := by decide
  simp only [e01, and_true, ite_self, le_iff_lt_or_eq, eq_comm (a := t (ix2 i (1 : Fin 2)))]

/-- The search for the label. -/
theorem label_eq (t : Mf Ideal) :
    label t = fun j => (Host.argReduce (F := Ideal) (φ := .f32) reducer_argmax_f32_i32 t (iotaInDim S8388608x2 32 1)
      (cst (F := Ideal) 0xFF800000#32) (constantI S_ 32 0#32) reducesTo_S8388608x2_S8388608_d1 h_S_ j).2 := by
  unfold label
  with_reducible rfl

/-- What the search finds. -/
theorem search_apply (t : Mf Ideal) (i : Fin 8388608) :
    (Host.argReduce (F := Ideal) (φ := .f32) reducer_argmax_f32_i32 t (iotaInDim S8388608x2 32 1)
      (cst (F := Ideal) 0xFF800000#32) (constantI S_ 32 0#32) reducesTo_S8388608x2_S8388608_d1 h_S_ (ix1 i)).2
      = if t (ix2 i (1 : Fin 2)) ≤ t (ix2 i (0 : Fin 2)) then 0#32 else 1#32 :=
  argmax_row (N := 8388608) (u := S_) t (iotaInDim S8388608x2 32 1) (cst (F := Ideal) 0xFF800000#32) (constantI S_ 32 0#32)
    reducesTo_S8388608x2_S8388608_d1 h_S_ i (by rfl) (by rfl) w_bottom rfl

/-- A sample's label: column 0 unless the target of column 1 is greater. -/
theorem label_apply (t : Mf Ideal) (i : Fin 8388608) :
    label t (ix1 i) = if t (ix2 i (1 : Fin 2)) ≤ t (ix2 i (0 : Fin 2)) then 0#32 else 1#32 :=
  (congrFun (label_eq t) (ix1 i)).trans (search_apply t i)

end Cert.ReferenceIdeal.Value

end
-- ==== Proof.RefLogs.lean ====
/-
  The reference's softmax and its logarithm over the extended reals: every sample's gradient norm, and the logarithms of
  its two probabilities.
-/
module

public import proofs.«01_k».proof.Proof.RefRows

@[expose] public section

set_option maxRecDepth 16384

noncomputable section

namespace Cert.ReferenceIdeal.Value

open Cert.ReferenceIdeal Cert.ReferenceIdeal.Gen Idealize.ShloMosaic Idealize.SL.Sem
open Cert.Model

/-! ## The operations at an index -/

section
variable {s : Shape} (a b : s.Idx → EReal) (j : s.Idx)

/-- A difference, at an index. -/
theorem sub_at : subf (F := Ideal) (φ := .f32) a b j = a j - b j := rfl
/-- A product, at an index. -/
theorem mul_at : mulf (F := Ideal) (φ := .f32) a b j = a j * b j := rfl
/-- A maximum, at an index. -/
theorem max_at : maximumf (F := Ideal) (φ := .f32) a b j = max (a j) (b j) := rfl
/-- A quotient, at an index. -/
theorem div_at : Host.divf (F := Ideal) (φ := .f32) a b j = Ideal.div (a j) (b j) := rfl
/-- An exponential, at an index. -/
theorem exp_at : Host.exp (F := Ideal) (φ := .f32) a j = Ideal.exp (a j) := rfl
/-- A logarithm, at an index. -/
theorem log_at : Host.log (F := Ideal) (φ := .f32) a j = Ideal.log (a j) := rfl
/-- An absolute value, at an index. -/
theorem abs_at : Host.absf (F := Ideal) (φ := .f32) a j = mag (a j) := rfl
end

/-- A repeated scalar constant. -/
theorem rep_at (w : BitVec 32) (i : Fin 8388608) : rep (cst (F := Ideal) w) (ix1 i) = Ideal.ofBits .f32 w := rfl

variable {x t : Mf Ideal}

/-! ## The logits less the larger -/

/-- A logit less the larger of its row. -/
theorem shifted_apply (x : Mf Ideal) (i : Fin 8388608) (k : Fin 2) :
    shifted x (ix2 i k) = x (ix2 i k) - max (x (ix2 i (0 : Fin 2))) (x (ix2 i (1 : Fin 2))) := by
  unfold shifted
  rw [sub_at, both_apply, max_at, rep_at, w_bottom, max_bot_left, rowMax_apply]

/-- The left logit, as a real number. -/
abbrev lft (x : Mf Ideal) (i : Fin 8388608) : ℝ := EReal.toReal (x (ix2 i (0 : Fin 2)))
/-- The right logit, as a real number. -/
abbrev rgt (x : Mf Ideal) (i : Fin 8388608) : ℝ := EReal.toReal (x (ix2 i (1 : Fin 2)))

/-- The larger logit, as a real number. -/
theorem max_real (h : Fits x t) (i : Fin 8388608) :
    max (x (ix2 i (0 : Fin 2))) (x (ix2 i (1 : Fin 2))) = ((max (lft x i) (rgt x i) : ℝ) : EReal) := by
  rw [max_coe, ← h.left i, ← h.right i]

/-- The left logit less the larger of the two. -/
theorem shifted_left (h : Fits x t) (i : Fin 8388608) :
    shifted x (ix2 i (0 : Fin 2)) = ((lft x i - max (lft x i) (rgt x i) : ℝ) : EReal) := by
  rw [shifted_apply, max_real h, EReal.coe_sub, ← h.left i]

/-- The right logit less the larger of the two. -/
theorem shifted_right (h : Fits x t) (i : Fin 8388608) :
    shifted x (ix2 i (1 : Fin 2)) = ((rgt x i - max (lft x i) (rgt x i) : ℝ) : EReal) := by
  rw [shifted_apply, max_real h, EReal.coe_sub, ← h.right i]

/-- The sum of the two exponentials. -/
theorem exps_apply (h : Fits x t) (i : Fin 8388608) : rowAdd (Host.exp (shifted x)) (ix1 i) = ((den (gap x i) : ℝ) : EReal) := by
  rw [rowAdd_apply]
  rw [exp_at, exp_at, shifted_left h, shifted_right h, Ideal.exp_coe, Ideal.exp_coe, ← EReal.coe_add, exp_sum]
  rfl

/-! ## The gradient norm -/

/-- A probability of the softmax. -/
theorem soft_apply (h : Fits x t) (i : Fin 8388608) (k : Fin 2) :
    Host.divf (Host.exp (shifted x)) (both (rowAdd (Host.exp (shifted x)))) (ix2 i k)
      = Ideal.exp (shifted x (ix2 i k)) * ((1 / den (gap x i) : ℝ) : EReal) := by
  rw [div_at, exp_at, both_apply, exps_apply h]
  exact Ideal.div_coe (den_pos _).ne' _

/-- The probability of class 0. -/
theorem soft_left (h : Fits x t) (i : Fin 8388608) :
    Host.divf (Host.exp (shifted x)) (both (rowAdd (Host.exp (shifted x)))) (ix2 i (0 : Fin 2)) = ((prob (gap x i) : ℝ) : EReal) := by
  rw [soft_apply h, shifted_left h, Ideal.exp_coe, ← EReal.coe_mul, mul_one_div]
  exact congrArg _ (soft0 _ _)

/-- The probability of class 1. -/
theorem soft_right (h : Fits x t) (i : Fin 8388608) :
    Host.divf (Host.exp (shifted x)) (both (rowAdd (Host.exp (shifted x)))) (ix2 i (1 : Fin 2))
      = ((1 - prob (gap x i) : ℝ) : EReal) := by
  rw [soft_apply h, shifted_right h, Ideal.exp_coe, ← EReal.coe_mul, mul_one_div]
  exact congrArg _ (soft1 _ _)

/-- A sample's gradient norm. -/
theorem norms_apply (h : Fits x t) (i : Fin 8388608) : norms x t (ix1 i) = gradNorm x t i := by
  unfold norms
  rw [rowAdd_apply]
  rw [mul_at, mul_at, abs_at, abs_at, sub_at, sub_at, soft_left h, soft_right h]
  rfl

/-! ## The logarithms -/

/-- The logarithm taken between the two steps that make a sample vector two columns. -/
theorem log_both (v : Vf Ideal) (i : Fin 8388608) (k : Fin 2) :
    broadcastInDim S8388608x2 ![0, 1] bcast_S8388608x1_S8388608x2_0_1
        (Host.log (F := Ideal) (φ := .f32) (broadcastInDim S8388608x1 ![0] bcast_S8388608_S8388608x1_0 v)) (ix2 i k)
      = Host.log (F := Ideal) (φ := .f32) v (ix1 i) := by
  pointwise

/-- A logarithm of the softmax. -/
theorem logs_apply (h : Fits x t) (i : Fin 8388608) (k : Fin 2) :
    logs x (ix2 i k) = shifted x (ix2 i k) - ((Real.log (den (gap x i)) : ℝ) : EReal) := by
  unfold logs
  rw [sub_at, log_both, log_at, exps_apply h, Ideal.log_coe, if_neg (den_pos _).not_ge]

/-- The logarithm in the column of the greater target is the cross entropy, negated. -/
theorem logs_label (h : Fits x t) (i : Fin 8388608) :
    -(logs x (ix2 i (if t (ix2 i (1 : Fin 2)) ≤ t (ix2 i (0 : Fin 2)) then (0 : Fin 2) else 1))) = ((entropy x t i : ℝ) : EReal) := by
  have e := logsoft (lft x i) (rgt x i) (t (ix2 i (0 : Fin 2))) (t (ix2 i (1 : Fin 2)))
  rw [logs_apply h]
  refine Eq.trans ?_ (congrArg Real.toEReal e)
  split
  · rw [shifted_left h, ← EReal.coe_sub, ← EReal.coe_neg]; rfl
  · rw [shifted_right h, ← EReal.coe_sub, ← EReal.coe_neg]; rfl

end Cert.ReferenceIdeal.Value

end
-- ==== Proof.RefPick.lean ====
/-
  The entry of a two-column array in the column that a label names.
-/
module

public import proofs.«01_k».proof.Proof.RefRows

@[expose] public section

set_option maxRecDepth 16384

noncomputable section

namespace Cert.ReferenceIdeal.Value

open Cert.ReferenceIdeal Cert.ReferenceIdeal.Gen Idealize.ShloMosaic Idealize.SL.Sem
open Cert.Model

/-! ## The gather -/

/-- The dimension numbers of a gather that takes one entry of every row of a two-column array. -/
abbrev rowTake (N : ℕ) (wf : GatherDims.WF ⟨2, ![N, 2]⟩ ⟨3, ![N, 1, 1]⟩ ⟨2, ![N, 1]⟩ [] [1] [0] [1] [0] 2 ![1, 1]) :
    GatherDims ⟨2, ![N, 2]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The column the gather reads: the start, clamped to the two columns. -/
def column (v : BitVec 32) : Fin 2 := ⟨min v.toInt.toNat 1, by omega⟩

/-- The gather reads row `i` at the column its start names. -/
theorem rowTake_apply {α : Type} {N : ℕ}
    (wf : GatherDims.WF ⟨2, ![N, 2]⟩ ⟨3, ![N, 1, 1]⟩ ⟨2, ![N, 1]⟩ [] [1] [0] [1] [0] 2 ![1, 1])
    (y : (⟨2, ![N, 2]⟩ : Shape).Idx → α) (s : IVec ⟨3, ![N, 1, 1]⟩ 32) (i : Fin N) :
    Host.gather (rowTake N wf) y s (ix2 i (0 : Fin 1)) = y (ix2 i (column (s (ix3 i (0 : Fin 1) (0 : Fin 1))))) := by
  unfold Host.gather
  congr 1
  funext a
  refine Fin.ext ?_
  show (rowTake N wf).start (ix2 i (0 : Fin 1)) s a + (rowTake N wf).batchCoord (ix2 i (0 : Fin 1)) a
      + (rowTake N wf).offCoord (ix2 i (0 : Fin 1)) a = _
  obtain rfl | rfl : a = (0 : Fin 2) ∨ a = (1 : Fin 2) := by
    match a with
    | ⟨0, _⟩ => exact Or.inl rfl
    | ⟨1, _⟩ => exact Or.inr rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTake N wf).startIndexMap from List.mem_singleton.mpr rfl)]
    have e : (rowTake N wf).siIdx (ix2 i (0 : Fin 1)) ⟨List.idxOf (1 : Fin 2) (rowTake N wf).startIndexMap,
        List.idxOf_lt_length_iff.2 (List.mem_singleton.mpr rfl)⟩ = ix3 i (0 : Fin 1) (0 : Fin 1) := by
      funext b
      refine Fin.ext ?_
      match b with
      | ⟨0, _⟩ => rfl
      | ⟨1, _⟩ => rfl
      | ⟨2, _⟩ => rfl
    rw [e]
    rfl

/-! ## The starts -/

/-- A start is the label, wrapped when negative. -/
theorem starts_apply (l : Vec Ideal S8388608 .i32) (i : Fin 8388608) :
    starts (F := Ideal) l (ix3 i (0 : Fin 1) (0 : Fin 1))
      = Scalar.select (IntOp.cmpi .slt (l (ix1 i)) 0#32) (IntOp.addi (l (ix1 i)) 2#32) (l (ix1 i)) := by
  unfold starts
  pointwise

/-! ## The entry the label names -/

/-- Either column is inside. -/
theorem inside_apply (s : Vec Ideal S8388608x1x1 .i32) (hs : ∀ k, s k = 0#32 ∨ s k = 1#32) (j : S8388608x1.Idx) :
    inside (F := Ideal) s j = 1#1 := by
  unfold inside
  refine Host.reduce_andi_one _ _ _ _ _ rfl fun k => ?_
  show IntOp.andi (IntOp.cmpi .sge (s k) 0#32) (IntOp.cmpi .sle (s k) 1#32) = 1#1
  rcases hs k with e | e <;> rw [e] <;> decide

/-- A start is the label itself when the label is a column. -/
theorem starts_label (l : Vec Ideal S8388608 .i32) (i : Fin 8388608) (hl : l (ix1 i) = 0#32 ∨ l (ix1 i) = 1#32) :
    starts (F := Ideal) l (ix3 i (0 : Fin 1) (0 : Fin 1)) = l (ix1 i) := by
  rw [starts_apply]
  rcases hl with e | e <;> rw [e] <;> decide

/-- What the gather is of. -/
theorem gather_apply (y : Mf Ideal) (s : Vec Ideal S8388608x1x1 .i32) (i : Fin 8388608) :
    Host.gather gather_S8388608x2_S8388608x1x1_S8388608x1_n_1_0_0_1_2_11 y s (ix2 i (0 : Fin 1))
      = y (ix2 i (column (s (ix3 i (0 : Fin 1) (0 : Fin 1))))) :=
  rowTake_apply (N := 8388608) Facts₀.gather_S8388608x2_S8388608x1x1_S8388608x1_n_1_0_0_1_2_11_wf y s i

/-- The choice of a `select`, at an index. -/
theorem select_at {s : Shape} {α : Type} (c : s.Idx → BitVec 1) (a b : s.Idx → α) (j : s.Idx) (h : c j = 1#1) :
    select c a b j = a j := if_pos h

/-- The entry in the label's column. -/
theorem picked_apply (y : Mf Ideal) (l : Vec Ideal S8388608 .i32) (hl : ∀ i : Fin 8388608, l (ix1 i) = 0#32 ∨ l (ix1 i) = 1#32)
    (i : Fin 8388608) : picked y l (ix2 i (0 : Fin 1)) = y (ix2 i (column (l (ix1 i)))) := by
  have hs : ∀ k, starts (F := Ideal) l k = 0#32 ∨ starts (F := Ideal) l k = 1#32 := by
    intro k
    obtain ⟨n, rfl⟩ : ∃ n : Fin 8388608, k = ix3 n (0 : Fin 1) (0 : Fin 1) := by
      refine ⟨k 0, ?_⟩
      funext a
      match a with
      | ⟨0, _⟩ => rfl
      | ⟨1, _⟩ => exact Subsingleton.elim (α := Fin 1) _ _
      | ⟨2, _⟩ => exact Subsingleton.elim (α := Fin 1) _ _
    rw [starts_label l n (hl n)]
    exact hl n
  unfold picked
  rw [select_at _ _ _ _ (inside_apply _ hs _), gather_apply, starts_label l i (hl i)]

end Cert.ReferenceIdeal.Value

end
-- ==== Proof.RefWeights.lean ====
/-
  The reference's bins over the extended reals: their counts, and the weights of the samples.
-/
module

public import proofs.«01_k».proof.Proof.RefRows
public import Idealize.ShloMosaic.Lib.StableHlo.Predicate

@[expose] public section

set_option maxRecDepth 16384

noncomputable section

namespace Cert.ReferenceIdeal.Value

open Cert.ReferenceIdeal Cert.ReferenceIdeal.Gen Idealize.ShloMosaic Idealize.SL.Sem
open Cert.Model

/-! ## The samples of a bin -/

/-- Both of two bits are set. -/
theorem both_bits (p q : Prop) [Decidable p] [Decidable q] :
    IntOp.andi (BitVec.ofBool (decide p)) (BitVec.ofBool (decide q)) = 1#1 ↔ p ∧ q := by
  by_cases hp : p <;> by_cases hq : q <;> simp [hp, hq, IntOp.andi]

/-- A sample's bit says whether it is in the bin. -/
theorem member_apply (g : Vf Ideal) (b : ℕ) (i : Fin 8388608) :
    member g b (ix1 i) = BitVec.ofBool (decide (InBin level (fun k => g (ix1 k)) b i)) := by
  show IntOp.andi (BitVec.ofBool (decide (level b ≤ g (ix1 i)))) (BitVec.ofBool (decide (g (ix1 i) < level (b + 1)))) = _
  by_cases h0 : level b ≤ g (ix1 i) <;> by_cases h1 : g (ix1 i) < level (b + 1) <;> simp [InBin, h0, h1, IntOp.andi]

/-- The word that counts the set bits, read as an integer. -/
theorem count_word {N : ℕ} {u : Shape} (hN : N < 2 ^ 31) (m : (⟨1, ![N]⟩ : Shape).Idx → BitVec 1) (z : u.Idx → BitVec 32)
    (hw : 1 < 32) (h : (⟨1, ![N]⟩ : Shape).ReducesTo [0] ⟨0, ![]⟩) (hu : 0 < u.numel) (hz : z (Shape.Idx.first hu) = 0#32)
    (j : (⟨0, ![]⟩ : Shape).Idx) :
    (Host.reduce IntOp.addi (extui 32 m hw) z h hu j).toInt = ((∑ k : Fin N, if m (ix1 k) = 1#1 then 1 else 0 : ℕ) : ℤ) := by
  classical
  have e : ∀ k : Fin N, ((extui 32 m hw) (ix1 k)).toNat = if m (ix1 k) = 1#1 then 1 else 0 :=
    fun k => StableHlo.Predicate.toNat_setWidth_bit (m (ix1 k))
  have hs : (∑ k : Fin N, ((extui 32 m hw) (ix1 k)).toNat) ≤ N := by
    refine (Finset.sum_le_sum (g := fun _ => 1) fun k _ => ?_).trans (by simp)
    rw [e]; split <;> simp
  have hn : (Host.reduce IntOp.addi (extui 32 m hw) z h hu j).toNat = ∑ k : Fin N, ((extui 32 m hw) (ix1 k)).toNat := by
    rw [Host.reduce_eq_fold, hz, Shape.ReducesTo.fold_fiber_r1_a0]
    exact StableHlo.Predicate.toNat_fold_addi _ _ (by omega)
  rw [BitVec.toInt_eq_toNat_of_lt (by omega), hn]
  exact congrArg Nat.cast (Finset.sum_congr rfl fun k _ => e k)

/-- The number of samples in the bin. -/
theorem num_apply (g : Vf Ideal) (b : ℕ) (j : S_.Idx) :
    num g b j = ((binCount level (fun k => g (ix1 k)) b : ℝ) : EReal) := by
  have e := count_word (N := 8388608) (u := S_) (by norm_num) (member g b) (constantI S_ 32 0#32) natLt_1_32
    reducesTo_S8388608_S_d0 h_S_ rfl j
  refine (congrArg (fun n : ℤ => (((n : ℤ) : ℝ) : EReal)) e).trans (congrArg Real.toEReal ?_)
  unfold binCount
  push_cast
  refine Finset.sum_congr rfl fun k _ => ?_
  rw [member_apply]
  unfold pick
  by_cases h : InBin level (fun k => g (ix1 k)) b k <;> simp [h]

/-! ## The weights -/

variable (g : Vf Ideal)

/-- The count of every bin. -/
abbrev cnt : ℕ → ℝ := binCount level (fun k => g (ix1 k))

/-- A bin is in use when its count is positive. -/
theorem used_apply (b : ℕ) (j : S_.Idx) : used g b j = BitVec.ofBool (decide (0 < cnt g b)) := by
  show BitVec.ofBool (decide (Ideal.ofBits .f32 0x00000000#32 < num g b j)) = _
  rw [num_apply, w_zero]
  simp only [EReal.coe_pos]

/-- The weight of a sample of a bin in use. -/
theorem wt_apply (b : ℕ) (h : 0 < cnt g b) (j : S_.Idx) : wt g b j = ((weightOf (cnt g) b : ℝ) : EReal) := by
  obtain ⟨e, he, hle⟩ := w_tiny
  have h1 : 1 ≤ cnt g b := one_le_count h
  have hm : max (tenth * cnt g b) e = tenth * cnt g b := max_eq_left (hle.trans (by norm_num [tenth]; linarith))
  show Ideal.div (Ideal.ofBits .f32 0x4B000000#32)
    (max (Ideal.ofBits .f32 0x00000000#32 + Ideal.ofBits .f32 0x3DCCCCCD#32 * num g b j) (Ideal.ofBits .f32 0x2B8CBCCC#32)) = _
  rw [num_apply, w_zero, zero_add, w_tenth, w_samples, he, ← EReal.coe_mul, ← max_coe, hm,
    Ideal.div_coe (by unfold tenth; positivity), ← EReal.coe_mul, mul_one_div]
  rfl

/-- A sample's weight after the first `n` bins. -/
theorem weights_apply (n : ℕ) (i : Fin 8388608) :
    weights g n (ix1 i) = ((weightAt level (fun k => g (ix1 k)) (cnt g) n i : ℝ) : EReal) := by
  induction n with
  | zero => exact w_zero
  | succ b ih =>
    show (if IntOp.andi (member g b (ix1 i)) (used g b _) = 1#1 then wt g b _ else weights g b (ix1 i)) = _
    rw [member_apply, used_apply, ih]
    by_cases hc : InBin level (fun k => g (ix1 k)) b i ∧ 0 < cnt g b
    · rw [if_pos ((both_bits _ _).2 hc), wt_apply g b hc.2]
      exact congrArg Real.toEReal (if_pos hc).symm
    · rw [if_neg (fun e => hc ((both_bits _ _).1 e))]
      exact congrArg Real.toEReal (if_neg hc).symm

/-- The number of the first `n` bins in use. -/
theorem count_apply (n : ℕ) (j : S_.Idx) : count g n j = ((occupied (cnt g) n : ℝ) : EReal) := by
  induction n with
  | zero => exact w_zero
  | succ b ih =>
    show count g b j + (((used g b j).toNat : ℝ) : EReal) = _
    rw [ih, used_apply, ← EReal.coe_add]
    unfold occupied
    rw [Finset.sum_range_succ]
    refine congrArg (fun r : ℝ => ((_ + r : ℝ) : EReal)) ?_
    by_cases h : 0 < cnt g b <;> simp [h]

/-- A sample's weight over the number of bins in use. -/
theorem scaled_apply (i : Fin 8388608) :
    scaled (weights g 10) (count g 10) (ix1 i)
      = ((weightAt level (fun k => g (ix1 k)) (cnt g) 10 i / max (occupied (cnt g) 10) 1 : ℝ) : EReal) := by
  show (if BitVec.ofBool (decide (Ideal.ofBits .f32 0x00000000#32 < count g 10 _)) = 1#1
    then Ideal.div (weights g 10 (ix1 i)) (max (count g 10 _) (Ideal.ofBits .f32 0x3F800000#32)) else weights g 10 (ix1 i)) = _
  rw [weights_apply, count_apply, w_zero, w_one, ← max_coe, Ideal.div_coe (by positivity), ← EReal.coe_mul, mul_one_div]
  by_cases h : 0 < occupied (cnt g) 10
  · rw [if_pos (by simp [h])]
  · have h0 : occupied (cnt g) 10 = 0 := le_antisymm (not_lt.1 h) (occupied_nonneg _ _)
    rw [if_neg (by simp [h]), h0]
    norm_num

end Cert.ReferenceIdeal.Value

end
-- ==== Proof.RefLoss.lean ====
/-
  What the reference returns over the extended reals: the loss of the two argument arrays.
-/
module

public import proofs.«01_k».proof.Proof.RefLogs
public import proofs.«01_k».proof.Proof.RefPick
public import proofs.«01_k».proof.Proof.RefWeights

@[expose] public section

set_option maxRecDepth 16384

noncomputable section

namespace Cert.ReferenceIdeal.Value

open Cert.ReferenceIdeal Cert.ReferenceIdeal.Gen Idealize.ShloMosaic Idealize.SL.Sem
open Cert.Model

variable {x t : Mf Ideal}

/-- What the label picks of the logarithms, negated, is the cross entropy. -/
theorem picked_entropy (h : Fits x t) (i : Fin 8388608) :
    -(picked (logs x) (label t) (ix2 i (0 : Fin 1))) = ((entropy x t i : ℝ) : EReal) := by
  have hl : ∀ i : Fin 8388608, label t (ix1 i) = 0#32 ∨ label t (ix1 i) = 1#32 := by
    intro i
    rw [label_apply]
    split
    · exact Or.inl rfl
    · exact Or.inr rfl
  have hc : column (label t (ix1 i)) = if t (ix2 i (1 : Fin 2)) ≤ t (ix2 i (0 : Fin 2)) then (0 : Fin 2) else 1 := by
    rw [label_apply]
    split <;> decide
  rw [picked_apply _ _ hl, hc]
  exact logs_label h i

/-- A column as a sample vector. -/
theorem flat_apply (p : Vec Ideal S8388608x1 .f32) (i : Fin 8388608) :
    shapeCast S8388608 p shapeCasts_S8388608x1_S8388608 (ix1 i) = p (ix2 i (0 : Fin 1)) := by
  pointwise

/-- The mean is the sum over the samples, divided by their number. -/
theorem meanOf_apply (w : Vf Ideal) (p : Vec Ideal S8388608x1 .f32) (j : S1x1.Idx) :
    meanOf w p j = Ideal.div (∑ i : Fin 8388608, w (ix1 i) * -(p (ix2 i (0 : Fin 1)))) ((8388608 : ℝ) : EReal) := by
  unfold meanOf shapeCast
  rw [div_at]
  refine congrArg₂ Ideal.div ?_ w_samples
  refine (Ideal.hostReduceAdd_r1_a0 reducesTo_S8388608_S_d0 _ (Ideal.ofBits .f32 0x00000000#32) _).trans ?_
  rw [w_zero, zero_add]
  refine Finset.sum_congr rfl fun i _ => ?_
  rw [mul_at]
  exact congrArg (fun e => w (ix1 i) * -e) (flat_apply p i)

/-- What the reference returns. -/
theorem loss_apply (h : Fits x t) : loss x t = fun _ => ((lossOf x t : ℝ) : EReal) := by
  funext j
  have hg : (fun i : Fin 8388608 => norms x t (ix1 i)) = gradNorm x t := funext (norms_apply h)
  have hk : cnt (norms x t) = binCount level (gradNorm x t) := congrArg (binCount level) hg
  have e : ∀ i : Fin 8388608, scaled (weights (norms x t) 10) (count (norms x t) 10) (ix1 i)
        * -(picked (logs x) (label t) (ix2 i (0 : Fin 1)))
      = ((weightAt level (gradNorm x t) (binCount level (gradNorm x t)) 10 i
          / max (occupied (binCount level (gradNorm x t)) 10) 1 * entropy x t i : ℝ) : EReal) := by
    intro i
    rw [picked_entropy h, scaled_apply, EReal.coe_mul, hg, hk]
  unfold loss
  rw [meanOf_apply, Finset.sum_congr rfl fun i _ => e i, ← sum_coe, Ideal.div_coe (by norm_num), ← EReal.coe_mul, mul_one_div,
    mean_eq level_mono]
  rfl

end Cert.ReferenceIdeal.Value

end
-- ==== Proof.Range.lean ====
/-
  What the precondition says of the argument arrays over the extended reals: finite logits at most 127 apart in each row,
  and targets not negative.
-/
module

public import proofs.«01_k».proof.Pre_in_range
public import proofs.«01_k».proof.Proof.Edges
public import Idealize.ShloMosaic.Lib.Affine
public import Idealize.ShloMosaic.Lib.Decide
public import Idealize.ShloMosaic.Lib.Pointwise
public import Idealize.ShloMosaic.Lib.ReduceAll
public import Idealize.ShloMosaic.PureOps.Ideal

@[expose] public section

set_option maxRecDepth 16384

noncomputable section

namespace Cert.Model

open Cert.Pre_in_range Idealize.ShloMosaic

/-- The side conditions the precondition states. -/
instance range_facts : Cert.Pre_in_range.Facts where
  slices_S8388608x2_S8388608x1_0_0 := by decide
  shapeCasts_S8388608x1_S8388608 := by decide
  slices_S8388608x2_S8388608x1_0_1 := by decide
  bcast_S_S8388608 := by decide
  reducesTo_S8388608_S_d0 := by decide
  h_S_ := by decide
  bcast_S_S8388608x2 := by decide
  reducesTo_S8388608x2_S_d0_1 := by decide

/-- The word of 127. -/
theorem w_reach : Ideal.ofBits .f32 0x42FE0000#32 = ((127 : ℝ) : EReal) := by
  simp [Ideal.ofBits, Ideal.ieee, -EReal.coe_mul]; norm_num

/-- Two extended reals whose difference has a real bound are real numbers. -/
theorem near_real {a b : EReal} {r : ℝ} (h : mag (a - b) ≤ (r : EReal)) :
    a = (a.toReal : EReal) ∧ b = (b.toReal : EReal) ∧ |a.toReal - b.toReal| ≤ r := by
  have h1 : a - b ≤ (r : EReal) := (le_max_left _ _).trans h
  have h2 : -(a - b) ≤ (r : EReal) := (le_max_right _ _).trans h
  induction a with
  | bot => simp at h2
  | top =>
    induction b with
    | bot => simp at h1
    | top => simp at h2
    | coe b => simp at h1
  | coe a =>
    induction b with
    | bot => simp at h1
    | top => simp at h2
    | coe b =>
      refine ⟨rfl, rfl, ?_⟩
      rw [← EReal.coe_sub] at h1
      rw [← EReal.coe_sub, ← EReal.coe_neg] at h2
      exact abs_le.2 ⟨by linarith [EReal.coe_le_coe_iff.1 h2, EReal.toReal_coe a, EReal.toReal_coe b],
        EReal.coe_le_coe_iff.1 h1⟩

/-- A bit that says a proposition holds. -/
theorem holds {p : Prop} [Decidable p] (h : BitVec.ofBool (decide p) = 1#1) : p := by
  by_contra hp
  rw [decide_eq_false hp] at h
  exact absurd h (by decide)

variable {x t : Rows.Idx → EReal}

/-- The left column of the logits. -/
theorem left_apply (x : Rows.Idx → EReal) (i : Fin 8388608) :
    shapeCast S8388608 (extractStridedSlice S8388608x1 ![0, 0] x Facts.slices_S8388608x2_S8388608x1_0_0)
      Facts.shapeCasts_S8388608x1_S8388608 (ix1 i) = x (ix2 i (0 : Fin 2)) := by
  pointwise

/-- The right column of the logits. -/
theorem right_apply (x : Rows.Idx → EReal) (i : Fin 8388608) :
    shapeCast S8388608 (extractStridedSlice S8388608x1 ![0, 1] x Facts.slices_S8388608x2_S8388608x1_0_1)
      Facts.shapeCasts_S8388608x1_S8388608 (ix1 i) = x (ix2 i (1 : Fin 2)) := by
  pointwise

/-- A bound compared with every magnitude of a difference, at one sample. -/
theorem near_at {s : Shape} (a b : s.Idx → EReal) (c : s.Idx → EReal) (j : s.Idx)
    (h : cmpf (F := Ideal) (φ := .f32) .ole (Host.absf (F := Ideal) (φ := .f32) (subf (F := Ideal) (φ := .f32) a b)) c j = 1#1) :
    mag (a j - b j) ≤ c j := holds h

/-- A bound compared with every entry, at one of them. -/
theorem least_at {s : Shape} (a c : s.Idx → EReal) (j : s.Idx) (h : cmpf (F := Ideal) (φ := .f32) .oge a c j = 1#1) :
    c j ≤ a j := holds h

/-- The precondition, read back. -/
theorem fits_of_range (h : Cert.Pre_in_range.fn (F := Ideal) x t = fun _ => 1#1) : Fits x t := by
  obtain ⟨h1, h2⟩ := IntOp.andi_eq_one.1 (congrFun h ix0)
  haveI : Subsingleton S_.Idx := ⟨fun a b => funext fun k => k.elim0⟩
  have hn : ∀ i : Fin 8388608, mag (x (ix2 i (0 : Fin 2)) - x (ix2 i (1 : Fin 2))) ≤ ((127 : ℝ) : EReal) := by
    intro i
    have e := near_at _ _ _ (ix1 i) (Host.reduce_andi_all _ _ _ _ _ h1 (ix1 i))
    rw [left_apply, right_apply] at e
    exact e.trans_eq w_reach
  have ht : ∀ (i : Fin 8388608) (k : Fin 2), 0 ≤ t (ix2 i k) := by
    intro i k
    have e := least_at _ _ (ix2 i k) (Host.reduce_andi_all _ _ _ _ _ h2 (ix2 i k))
    exact w_zero.symm.trans_le e
  exact ⟨fun i => (near_real (hn i)).1, fun i => (near_real (hn i)).2.1, fun i => (near_real (hn i)).2.2, ht⟩

end Cert.Model

end
-- ==== Proof.lean ====
/- The certificate's claims, put together from the modules under Proof/. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Read
public import proofs.«01_k».proof.Proof.Sweep
public import proofs.«01_k».proof.Proof.KernelLoss
public import proofs.«01_k».proof.Proof.RefLoss
public import proofs.«01_k».proof.Proof.Range
public import Idealize.ShloMosaic.Adequacy
public import Idealize.ShloMosaic.Init

@[expose] public section

noncomputable section

namespace Cert.Proof

open Idealize.ShloMosaic Idealize.SL.Sem

/-- The reference ends, with its arguments as they were; it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m g)

/-- Over the extended reals, on inputs in range, the kernel and the reference return the same value: the loss of the two
    arrays. -/
theorem same_loss : Cert.algebraic_KernelIdeal_ReferenceIdeal_pre_in_range (hKernelIdeal := Cert.KernelIdeal.Gen.facts)
    (hReferenceIdeal := Cert.ReferenceIdeal.Gen.facts) (hPre_in_range := Cert.Model.range_facts) := by
  intro m g m' g' hpre hagree
  refine ⟨fun c => Cert.KernelIdeal.Value.result m c, Cert.KernelIdeal.Value.run_result m g, ?_⟩
  refine (θ_run Cert.ReferenceIdeal.defs _ _).mono (fun r h c => ⟨?_, (h c).2⟩) (Cert.ReferenceIdeal.Value.run (F := Ideal) m' g')
  have hf := Cert.Model.fits_of_range (hpre c)
  rw [(h c).1, (hagree c).1, (hagree c).2]
  exact (Cert.ReferenceIdeal.Value.loss_apply hf).trans (Cert.KernelIdeal.Value.result_loss m c hf).symm

/-- Everything the certificate claims. -/
theorem claim : Cert.Claim := ⟨Cert.Kernel.Gen.facts, Cert.KernelIdeal.Gen.facts, Cert.ReferenceIdeal.Gen.facts,
  Cert.Model.range_facts,
  fun m g _ => Cert.Kernel.Gen.frame m g,
  fun m g _ => Cert.KernelIdeal.Gen.frame m g,
  fun m g _ => Cert.KernelIdeal.Gen.frame m g,
  fun m g _ => frame_reference m g,
  fun m g _ => frame_reference m g,
  trivial, same_loss⟩

end Cert.Proof

end
